-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v133) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S1x384x224x224 : Shape := ⟨4, ![1, 384, 224, 224]⟩
abbrev S1x4x224x224 : Shape := ⟨4, ![1, 4, 224, 224]⟩
abbrev S96x384x3x3 : Shape := ⟨4, ![96, 384, 3, 3]⟩
abbrev S384x384x1x1 : Shape := ⟨4, ![384, 384, 1, 1]⟩
abbrev S384x1536x1x1 : Shape := ⟨4, ![384, 1536, 1, 1]⟩
abbrev S384 : Shape := ⟨1, ![384]⟩
abbrev S_ : Shape := ⟨0, ![]⟩

class Facts : Prop where
  bcast_S_S1x384x224x224 : S_.BroadcastsInDim S1x384x224x224 (![] : Fin 0 → Fin S1x384x224x224.rank)
  bcast_S_S96x384x3x3 : S_.BroadcastsInDim S96x384x3x3 (![] : Fin 0 → Fin S96x384x3x3.rank)

variable [Facts]

def fn {F : FTy → Type} [FloatOps F] (main_arg0 : FVec F S1x384x224x224 .f32) (main_arg1 : IVec S1x4x224x224 32) (main_arg2 : FVec F S96x384x3x3 .f32) (main_arg3 : FVec F S384x384x1x1 .f32) (main_arg4 : FVec F S384x1536x1x1 .f32) (main_arg5 : FVec F S384 .f32) : IVec S1x384x224x224 1 × IVec S96x384x3x3 1 :=
  let main_v0 : FVec F S1x384x224x224 .f32 := Host.absf main_arg0
  let main_cst : FVec F S_ .f32 := constant S_ .f32 0x7F800000#32
  let main_v1 : FVec F S1x384x224x224 .f32 := broadcastInDim S1x384x224x224 ![] bcast_S_S1x384x224x224 main_cst
  let main_v2 : IVec S1x384x224x224 1 := cmpf .olt main_v0 main_v1
  let main_v3 : FVec F S96x384x3x3 .f32 := Host.absf main_arg2
  let main_cst_0 : FVec F S_ .f32 := constant S_ .f32 0x7F800000#32
  let main_v4 : FVec F S96x384x3x3 .f32 := broadcastInDim S96x384x3x3 ![] bcast_S_S96x384x3x3 main_cst_0
  let main_v5 : IVec S96x384x3x3 1 := cmpf .olt main_v3 main_v4
  (main_v2, main_v5)
-- ==== Kernel.lean ====
abbrev S1x384x224x224 : Shape := ⟨4, ![1, 384, 224, 224]⟩
abbrev S1x4x224x224 : Shape := ⟨4, ![1, 4, 224, 224]⟩
abbrev S96x384x3x3 : Shape := ⟨4, ![96, 384, 3, 3]⟩
abbrev S384x384x1x1 : Shape := ⟨4, ![384, 384, 1, 1]⟩
abbrev S384x1536x1x1 : Shape := ⟨4, ![384, 1536, 1, 1]⟩
abbrev S384 : Shape := ⟨1, ![384]⟩
abbrev S384x224x224 : Shape := ⟨3, ![384, 224, 224]⟩
abbrev S3x3x384x96 : Shape := ⟨4, ![3, 3, 384, 96]⟩
abbrev S9x384x96 : Shape := ⟨3, ![9, 384, 96]⟩
abbrev S384x384 : Shape := ⟨2, ![384, 384]⟩
abbrev S384x1536 : Shape := ⟨2, ![384, 1536]⟩
abbrev S1536x384 : Shape := ⟨2, ![1536, 384]⟩
abbrev S_ : Shape := ⟨0, ![]⟩
abbrev S1x384x1x224 : Shape := ⟨4, ![1, 384, 1, 224]⟩
abbrev S1x384x225x224 : Shape := ⟨4, ![1, 384, 225, 224]⟩
abbrev S1x384x226x224 : Shape := ⟨4, ![1, 384, 226, 224]⟩
abbrev S1x384x226x1 : Shape := ⟨4, ![1, 384, 226, 1]⟩
abbrev S1x384x226x225 : Shape := ⟨4, ![1, 384, 226, 225]⟩
abbrev S1x384x226x226 : Shape := ⟨4, ![1, 384, 226, 226]⟩
abbrev S384x226x226 : Shape := ⟨3, ![384, 226, 226]⟩
abbrev S384x51076 : Shape := ⟨2, ![384, 51076]⟩
abbrev S384x52224 : Shape := ⟨2, ![384, 52224]⟩
abbrev S384x51200 : Shape := ⟨2, ![384, 51200]⟩
abbrev S51200x96 : Shape := ⟨2, ![51200, 96]⟩
abbrev S51200x384 : Shape := ⟨2, ![51200, 384]⟩
abbrev S384x1024 : Shape := ⟨2, ![384, 1024]⟩
abbrev S1024x96 : Shape := ⟨2, ![1024, 96]⟩
abbrev S1024x384 : Shape := ⟨2, ![1024, 384]⟩
abbrev S384x2048 : Shape := ⟨2, ![384, 2048]⟩
abbrev S1x384x96 : Shape := ⟨3, ![1, 384, 96]⟩
abbrev S384x96 : Shape := ⟨2, ![384, 96]⟩
abbrev S4x50176 : Shape := ⟨2, ![4, 50176]⟩
abbrev S4 : Shape := ⟨1, ![4]⟩
abbrev S4x1 : Shape := ⟨2, ![4, 1]⟩
abbrev S200704 : Shape := ⟨1, ![200704]⟩
abbrev S200704x1 : Shape := ⟨2, ![200704, 1]⟩
abbrev S1 : Shape := ⟨1, ![1]⟩
abbrev S1x1 : Shape := ⟨2, ![1, 1]⟩
abbrev S200704x96 : Shape := ⟨2, ![200704, 96]⟩
abbrev S4x50176x96 : Shape := ⟨3, ![4, 50176, 96]⟩
abbrev S200704x384 : Shape := ⟨2, ![200704, 384]⟩
abbrev S4x50176x384 : Shape := ⟨3, ![4, 50176, 384]⟩
abbrev S1x512x96 : Shape := ⟨3, ![1, 512, 96]⟩
abbrev S1x64x96 : Shape := ⟨3, ![1, 64, 96]⟩
abbrev S1x512x384 : Shape := ⟨3, ![1, 512, 384]⟩
abbrev S1x64x384 : Shape := ⟨3, ![1, 64, 384]⟩
abbrev S64x96 : Shape := ⟨2, ![64, 96]⟩
abbrev S192x96 : Shape := ⟨2, ![192, 96]⟩
abbrev S192 : Shape := ⟨1, ![192]⟩
abbrev S192x1 : Shape := ⟨2, ![192, 1]⟩
abbrev S64x192 : Shape := ⟨2, ![64, 192]⟩
abbrev S64 : Shape := ⟨1, ![64]⟩
abbrev S64x1 : Shape := ⟨2, ![64, 1]⟩
abbrev S64x384 : Shape := ⟨2, ![64, 384]⟩
abbrev S192x384 : Shape := ⟨2, ![192, 384]⟩
abbrev S50176x4 : Shape := ⟨2, ![50176, 4]⟩
abbrev S50176x1536 : Shape := ⟨2, ![50176, 1536]⟩
abbrev S384x50176 : Shape := ⟨2, ![384, 50176]⟩
abbrev S50176x384 : Shape := ⟨2, ![50176, 384]⟩
abbrev S1x384 : Shape := ⟨2, ![1, 384]⟩
abbrev S512x1536 : Shape := ⟨2, ![512, 1536]⟩
abbrev S512x384 : Shape := ⟨2, ![512, 384]⟩

abbrev nBuf : Space → Nat
  | .hbm => 204
  | .vmem => 32
  | .smem => 0
  | _ => 0

abbrev hbmTy0_0 (i : Nat) : BufTy := match i % 128 with
  | 0 => ⟨S1x384x224x224, .f32⟩
  | 1 => ⟨S1x4x224x224, .i32⟩
  | 2 => ⟨S96x384x3x3, .f32⟩
  | 3 => ⟨S384x384x1x1, .f32⟩
  | 4 => ⟨S384x1536x1x1, .f32⟩
  | 5 => ⟨S384, .f32⟩
  | 6 => ⟨S384x224x224, .f32⟩
  | 7 => ⟨S3x3x384x96, .f32⟩
  | 8 => ⟨S9x384x96, .f32⟩
  | 9 => ⟨S384x384, .f32⟩
  | 10 => ⟨S384x384, .f32⟩
  | 11 => ⟨S384x1536, .f32⟩
  | 12 => ⟨S1536x384, .f32⟩
  | 13 => ⟨S1x384x224x224, .f32⟩
  | 14 => ⟨S_, .i32⟩
  | 15 => ⟨S1x384x1x224, .f32⟩
  | 16 => ⟨S1x384x1x224, .f32⟩
  | 17 => ⟨S1x384x1x224, .f32⟩
  | 18 => ⟨S1x384x225x224, .f32⟩
  | 19 => ⟨S1x384x1x224, .f32⟩
  | 20 => ⟨S1x384x1x224, .f32⟩
  | 21 => ⟨S1x384x1x224, .f32⟩
  | 22 => ⟨S1x384x226x224, .f32⟩
  | 23 => ⟨S1x384x226x1, .f32⟩
  | 24 => ⟨S1x384x226x1, .f32⟩
  | 25 => ⟨S1x384x226x1, .f32⟩
  | 26 => ⟨S1x384x226x225, .f32⟩
  | 27 => ⟨S1x384x226x1, .f32⟩
  | 28 => ⟨S1x384x226x1, .f32⟩
  | 29 => ⟨S1x384x226x1, .f32⟩
  | 30 => ⟨S1x384x226x226, .f32⟩
  | 31 => ⟨S384x226x226, .f32⟩
  | 32 => ⟨S384x51076, .f32⟩
  | 33 => ⟨S_, .i32⟩
  | 34 => ⟨S_, .f32⟩
  | 35 => ⟨S384x52224, .f32⟩
  | 36 => ⟨S384x51200, .f32⟩
  | 37 => ⟨S384x51200, .f32⟩
  | 38 => ⟨S51200x96, .f32⟩
  | 39 => ⟨S51200x384, .f32⟩
  | 40 => ⟨S4x50176, .i32⟩
  | 41 => ⟨S4, .i32⟩
  | 42 => ⟨S_, .i32⟩
  | 43 => ⟨S4, .i32⟩
  | 44 => ⟨S4, .i32⟩
  | 45 => ⟨S4x1, .i32⟩
  | 46 => ⟨S4x50176, .i32⟩
  | 47 => ⟨S4x50176, .i32⟩
  | 48 => ⟨S200704, .i32⟩
  | 49 => ⟨S200704, .i32⟩
  | 50 => ⟨S200704, .i32⟩
  | 51 => ⟨S200704, .i32⟩
  | 52 => ⟨S200704, .i32⟩
  | 53 => ⟨S200704, .i32⟩
  | 54 => ⟨S200704, .i32⟩
  | 55 => ⟨S_, .i32⟩
  | 56 => ⟨S_, .i32⟩
  | 57 => ⟨S_, .i32⟩
  | 58 => ⟨S_, .i1⟩
  | 59 => ⟨S_, .i32⟩
  | 60 => ⟨S_, .i32⟩
  | 61 => ⟨S200704, .i32⟩
  | 62 => ⟨S200704, .i32⟩
  | 63 => ⟨S_, .i32⟩
  | 64 => ⟨S200704, .i32⟩
  | 65 => ⟨S200704, .i1⟩
  | 66 => ⟨S_, .i32⟩
  | 67 => ⟨S200704, .i32⟩
  | 68 => ⟨S200704, .i1⟩
  | 69 => ⟨S_, .i32⟩
  | 70 => ⟨S_, .i1⟩
  | 71 => ⟨S200704, .i1⟩
  | 72 => ⟨S200704, .i1⟩
  | 73 => ⟨S200704, .i1⟩
  | 74 => ⟨S200704, .i32⟩
  | 75 => ⟨S200704, .i32⟩
  | 76 => ⟨S200704, .i32⟩
  | 77 => ⟨S_, .i32⟩
  | 78 => ⟨S_, .i32⟩
  | 79 => ⟨S200704, .i32⟩
  | 80 => ⟨S200704, .i32⟩
  | 81 => ⟨S200704, .i32⟩
  | 82 => ⟨S_, .i32⟩
  | 83 => ⟨S200704, .i32⟩
  | 84 => ⟨S200704, .i1⟩
  | 85 => ⟨S200704, .i32⟩
  | 86 => ⟨S200704, .i32⟩
  | 87 => ⟨S_, .i32⟩
  | 88 => ⟨S200704, .i32⟩
  | 89 => ⟨S200704, .i1⟩
  | 90 => ⟨S200704, .i1⟩
  | 91 => ⟨S_, .i32⟩
  | 92 => ⟨S200704, .i32⟩
  | 93 => ⟨S200704, .i32⟩
  | 94 => ⟨S200704, .i32⟩
  | 95 => ⟨S_, .i32⟩
  | 96 => ⟨S200704, .i32⟩
  | 97 => ⟨S200704, .i32⟩
  | 98 => ⟨S_, .i32⟩
  | 99 => ⟨S_, .i32⟩
  | 100 => ⟨S_, .i32⟩
  | 101 => ⟨S_, .i1⟩
  | 102 => ⟨S_, .i32⟩
  | 103 => ⟨S_, .i32⟩
  | 104 => ⟨S200704, .i32⟩
  | 105 => ⟨S200704, .i32⟩
  | 106 => ⟨S_, .i32⟩
  | 107 => ⟨S200704, .i32⟩
  | 108 => ⟨S200704, .i1⟩
  | 109 => ⟨S_, .i32⟩
  | 110 => ⟨S200704, .i32⟩
  | 111 => ⟨S200704, .i1⟩
  | 112 => ⟨S_, .i32⟩
  | 113 => ⟨S_, .i1⟩
  | 114 => ⟨S200704, .i1⟩
  | 115 => ⟨S200704, .i1⟩
  | 116 => ⟨S200704, .i1⟩
  | 117 => ⟨S200704, .i32⟩
  | 118 => ⟨S200704, .i32⟩
  | 119 => ⟨S200704, .i32⟩
  | 120 => ⟨S200704, .i32⟩
  | 121 => ⟨S_, .i32⟩
  | 122 => ⟨S200704, .i32⟩
  | 123 => ⟨S200704, .i1⟩
  | 124 => ⟨S_, .i32⟩
  | 125 => ⟨S200704, .i32⟩
  | 126 => ⟨S200704, .i32⟩
  | 127 => ⟨S200704, .i32⟩
  | _ => ⟨S1x384x224x224, .f32⟩

abbrev hbmTy0_1 (i : Nat) : BufTy := match i % 128 with
  | 0 => ⟨S200704x1, .i32⟩
  | 1 => ⟨S1, .i32⟩
  | 2 => ⟨S_, .i32⟩
  | 3 => ⟨S200704x1, .i32⟩
  | 4 => ⟨S200704x1, .i1⟩
  | 5 => ⟨S1x1, .i32⟩
  | 6 => ⟨S200704x1, .i32⟩
  | 7 => ⟨S200704x1, .i1⟩
  | 8 => ⟨S200704x1, .i1⟩
  | 9 => ⟨S_, .i1⟩
  | 10 => ⟨S200704, .i1⟩
  | 11 => ⟨S200704x96, .f32⟩
  | 12 => ⟨S200704x96, .i1⟩
  | 13 => ⟨S_, .f32⟩
  | 14 => ⟨S200704x96, .f32⟩
  | 15 => ⟨S200704x96, .f32⟩
  | 16 => ⟨S4x50176x96, .f32⟩
  | 17 => ⟨S_, .i32⟩
  | 18 => ⟨S200704, .i32⟩
  | 19 => ⟨S200704, .i1⟩
  | 20 => ⟨S_, .i32⟩
  | 21 => ⟨S200704, .i32⟩
  | 22 => ⟨S200704, .i32⟩
  | 23 => ⟨S200704, .i32⟩
  | 24 => ⟨S200704x1, .i32⟩
  | 25 => ⟨S1, .i32⟩
  | 26 => ⟨S_, .i32⟩
  | 27 => ⟨S200704x1, .i32⟩
  | 28 => ⟨S200704x1, .i1⟩
  | 29 => ⟨S1x1, .i32⟩
  | 30 => ⟨S200704x1, .i32⟩
  | 31 => ⟨S200704x1, .i1⟩
  | 32 => ⟨S200704x1, .i1⟩
  | 33 => ⟨S_, .i1⟩
  | 34 => ⟨S200704, .i1⟩
  | 35 => ⟨S200704x384, .f32⟩
  | 36 => ⟨S200704x384, .i1⟩
  | 37 => ⟨S_, .f32⟩
  | 38 => ⟨S200704x384, .f32⟩
  | 39 => ⟨S200704x384, .f32⟩
  | 40 => ⟨S4x50176x384, .f32⟩
  | 41 => ⟨S4x50176x384, .f32⟩
  | 42 => ⟨S4x50176, .i32⟩
  | 43 => ⟨S50176x4, .i32⟩
  | 44 => ⟨S200704, .i32⟩
  | 45 => ⟨S200704x384, .f32⟩
  | 46 => ⟨S_, .i32⟩
  | 47 => ⟨S200704, .i32⟩
  | 48 => ⟨S200704, .i1⟩
  | 49 => ⟨S_, .i32⟩
  | 50 => ⟨S200704, .i32⟩
  | 51 => ⟨S200704, .i32⟩
  | 52 => ⟨S200704, .i32⟩
  | 53 => ⟨S200704x1, .i32⟩
  | 54 => ⟨S1, .i32⟩
  | 55 => ⟨S_, .i32⟩
  | 56 => ⟨S200704x1, .i32⟩
  | 57 => ⟨S200704x1, .i1⟩
  | 58 => ⟨S1x1, .i32⟩
  | 59 => ⟨S200704x1, .i32⟩
  | 60 => ⟨S200704x1, .i1⟩
  | 61 => ⟨S200704x1, .i1⟩
  | 62 => ⟨S_, .i1⟩
  | 63 => ⟨S200704, .i1⟩
  | 64 => ⟨S200704x384, .f32⟩
  | 65 => ⟨S200704x384, .i1⟩
  | 66 => ⟨S_, .f32⟩
  | 67 => ⟨S200704x384, .f32⟩
  | 68 => ⟨S200704x384, .f32⟩
  | 69 => ⟨S50176x1536, .f32⟩
  | 70 => ⟨S384x50176, .f32⟩
  | 71 => ⟨S50176x384, .f32⟩
  | 72 => ⟨S1x384, .f32⟩
  | 73 => ⟨S50176x384, .f32⟩
  | 74 => ⟨S384x50176, .f32⟩
  | 75 => ⟨S1x384x224x224, .f32⟩
  | _ => ⟨S1x384x224x224, .f32⟩

abbrev hbmTy (i : Nat) : BufTy := match i / 128 with
  | 0 => hbmTy0_0 i
  | 1 => hbmTy0_1 i
  | _ => ⟨S1x384x224x224, .f32⟩

abbrev bufTy : (tb : Table) → Fin (tcTables nBuf tb) → BufTy
  | .hbm, ⟨i, _⟩ => hbmTy i
  | .local _ .vmem, ⟨0, _⟩ => ⟨S384x1024, .f32⟩
  | .local _ .vmem, ⟨1, _⟩ => ⟨S384x1024, .f32⟩
  | .local _ .vmem, ⟨2, _⟩ => ⟨S384x1024, .f32⟩
  | .local _ .vmem, ⟨3, _⟩ => ⟨S384x1024, .f32⟩
  | .local _ .vmem, ⟨4, _⟩ => ⟨S9x384x96, .f32⟩
  | .local _ .vmem, ⟨5, _⟩ => ⟨S384x384, .f32⟩
  | .local _ .vmem, ⟨6, _⟩ => ⟨S1024x96, .f32⟩
  | .local _ .vmem, ⟨7, _⟩ => ⟨S1024x96, .f32⟩
  | .local _ .vmem, ⟨8, _⟩ => ⟨S1024x384, .f32⟩
  | .local _ .vmem, ⟨9, _⟩ => ⟨S1024x384, .f32⟩
  | .local _ .vmem, ⟨10, _⟩ => ⟨S1x512x96, .f32⟩
  | .local _ .vmem, ⟨11, _⟩ => ⟨S1x512x96, .f32⟩
  | .local _ .vmem, ⟨12, _⟩ => ⟨S1x64x96, .f32⟩
  | .local _ .vmem, ⟨13, _⟩ => ⟨S1x64x96, .f32⟩
  | .local _ .vmem, ⟨14, _⟩ => ⟨S1x64x96, .f32⟩
  | .local _ .vmem, ⟨15, _⟩ => ⟨S1x64x96, .f32⟩
  | .local _ .vmem, ⟨16, _⟩ => ⟨S1x512x384, .f32⟩
  | .local _ .vmem, ⟨17, _⟩ => ⟨S1x512x384, .f32⟩
  | .local _ .vmem, ⟨18, _⟩ => ⟨S1x64x384, .f32⟩
  | .local _ .vmem, ⟨19, _⟩ => ⟨S1x64x384, .f32⟩
  | .local _ .vmem, ⟨20, _⟩ => ⟨S1x64x384, .f32⟩
  | .local _ .vmem, ⟨21, _⟩ => ⟨S1x64x384, .f32⟩
  | .local _ .vmem, ⟨22, _⟩ => ⟨S1x512x384, .f32⟩
  | .local _ .vmem, ⟨23, _⟩ => ⟨S1x512x384, .f32⟩
  | .local _ .vmem, ⟨24, _⟩ => ⟨S512x1536, .f32⟩
  | .local _ .vmem, ⟨25, _⟩ => ⟨S512x1536, .f32⟩
  | .local _ .vmem, ⟨26, _⟩ => ⟨S1536x384, .f32⟩
  | .local _ .vmem, ⟨27, _⟩ => ⟨S1x384, .f32⟩
  | .local _ .vmem, ⟨28, _⟩ => ⟨S512x384, .f32⟩
  | .local _ .vmem, ⟨29, _⟩ => ⟨S512x384, .f32⟩
  | .local _ .vmem, ⟨30, _⟩ => ⟨S512x384, .f32⟩
  | .local _ .vmem, ⟨31, _⟩ => ⟨S512x384, .f32⟩
  | _, _ => ⟨S1x384x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_c_0 : Ref sig .tc := ⟨.hbm, 33, rfl⟩
abbrev main_call1_v0 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14_0 : Ref sig .tc := ⟨.hbm, 38, rfl⟩
abbrev main_v14_1 : Ref sig .tc := ⟨.hbm, 39, rfl⟩
abbrev main_v15 : Ref sig .tc := ⟨.hbm, 40, rfl⟩
abbrev main_v16 : Ref sig .tc := ⟨.hbm, 41, rfl⟩
abbrev main_c_1 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_call2_v0 : Ref sig .tc := ⟨.hbm, 49, rfl⟩
abbrev main_call2_v1_0 : Ref sig .tc := ⟨.hbm, 50, rfl⟩
abbrev main_v23 : Ref sig .tc := ⟨.hbm, 51, rfl⟩
abbrev main_call3_v0 : Ref sig .tc := ⟨.hbm, 52, rfl⟩
abbrev main_call3_v1_0 : Ref sig .tc := ⟨.hbm, 53, rfl⟩
abbrev main_v24 : Ref sig .tc := ⟨.hbm, 54, rfl⟩
abbrev main_c_2 : Ref sig .tc := ⟨.hbm, 55, rfl⟩
abbrev main_call4_v0 : Ref sig .tc := ⟨.hbm, 56, rfl⟩
abbrev main_call4_c : Ref sig .tc := ⟨.hbm, 57, rfl⟩
abbrev main_call4_v1 : Ref sig .tc := ⟨.hbm, 58, rfl⟩
abbrev main_call4_c_0 : Ref sig .tc := ⟨.hbm, 59, rfl⟩
abbrev main_call4_v2 : Ref sig .tc := ⟨.hbm, 60, rfl⟩
abbrev main_call4_v3 : Ref sig .tc := ⟨.hbm, 61, rfl⟩
abbrev main_call4_v4 : Ref sig .tc := ⟨.hbm, 62, rfl⟩
abbrev main_call4_c_1 : Ref sig .tc := ⟨.hbm, 63, rfl⟩
abbrev main_call4_v5 : Ref sig .tc := ⟨.hbm, 64, rfl⟩
abbrev main_call4_v6 : Ref sig .tc := ⟨.hbm, 65, rfl⟩
abbrev main_call4_c_2 : Ref sig .tc := ⟨.hbm, 66, rfl⟩
abbrev main_call4_v7 : Ref sig .tc := ⟨.hbm, 67, rfl⟩
abbrev main_call4_v8 : Ref sig .tc := ⟨.hbm, 68, rfl⟩
abbrev main_call4_c_3 : Ref sig .tc := ⟨.hbm, 69, rfl⟩
abbrev main_call4_v9 : Ref sig .tc := ⟨.hbm, 70, rfl⟩
abbrev main_call4_v10 : Ref sig .tc := ⟨.hbm, 71, rfl⟩
abbrev main_call4_v11 : Ref sig .tc := ⟨.hbm, 72, rfl⟩
abbrev main_call4_v12 : Ref sig .tc := ⟨.hbm, 73, rfl⟩
abbrev main_call4_v13 : Ref sig .tc := ⟨.hbm, 74, rfl⟩
abbrev main_call4_v14 : Ref sig .tc := ⟨.hbm, 75, rfl⟩
abbrev main_v25 : Ref sig .tc := ⟨.hbm, 76, rfl⟩
abbrev main_c_3 : Ref sig .tc := ⟨.hbm, 77, rfl⟩
abbrev main_call5_v0 : Ref sig .tc := ⟨.hbm, 78, rfl⟩
abbrev main_call5_v1 : Ref sig .tc := ⟨.hbm, 79, rfl⟩
abbrev main_call5_v2 : Ref sig .tc := ⟨.hbm, 80, rfl⟩
abbrev main_call5_v3 : Ref sig .tc := ⟨.hbm, 81, rfl⟩
abbrev main_call5_v4 : Ref sig .tc := ⟨.hbm, 82, rfl⟩
abbrev main_call5_v5 : Ref sig .tc := ⟨.hbm, 83, rfl⟩
abbrev main_call5_v6 : Ref sig .tc := ⟨.hbm, 84, rfl⟩
abbrev main_call5_v7 : Ref sig .tc := ⟨.hbm, 85, rfl⟩
abbrev main_call5_v8 : Ref sig .tc := ⟨.hbm, 86, rfl⟩
abbrev main_call5_c : Ref sig .tc := ⟨.hbm, 87, rfl⟩
abbrev main_call5_v9 : Ref sig .tc := ⟨.hbm, 88, rfl⟩
abbrev main_call5_v10 : Ref sig .tc := ⟨.hbm, 89, rfl⟩
abbrev main_call5_v11 : Ref sig .tc := ⟨.hbm, 90, rfl⟩
abbrev main_call5_c_0 : Ref sig .tc := ⟨.hbm, 91, rfl⟩
abbrev main_call5_v12 : Ref sig .tc := ⟨.hbm, 92, rfl⟩
abbrev main_call5_v13 : Ref sig .tc := ⟨.hbm, 93, rfl⟩
abbrev main_v26 : Ref sig .tc := ⟨.hbm, 94, rfl⟩
abbrev main_c_4 : Ref sig .tc := ⟨.hbm, 95, rfl⟩
abbrev main_v27 : Ref sig .tc := ⟨.hbm, 96, rfl⟩
abbrev main_v28 : Ref sig .tc := ⟨.hbm, 97, rfl⟩
abbrev main_c_5 : Ref sig .tc := ⟨.hbm, 98, rfl⟩
abbrev main_call6_v0 : Ref sig .tc := ⟨.hbm, 99, rfl⟩
abbrev main_call6_c : Ref sig .tc := ⟨.hbm, 100, rfl⟩
abbrev main_call6_v1 : Ref sig .tc := ⟨.hbm, 101, rfl⟩
abbrev main_call6_c_0 : Ref sig .tc := ⟨.hbm, 102, rfl⟩
abbrev main_call6_v2 : Ref sig .tc := ⟨.hbm, 103, rfl⟩
abbrev main_call6_v3 : Ref sig .tc := ⟨.hbm, 104, rfl⟩
abbrev main_call6_v4 : Ref sig .tc := ⟨.hbm, 105, rfl⟩
abbrev main_call6_c_1 : Ref sig .tc := ⟨.hbm, 106, rfl⟩
abbrev main_call6_v5 : Ref sig .tc := ⟨.hbm, 107, rfl⟩
abbrev main_call6_v6 : Ref sig .tc := ⟨.hbm, 108, rfl⟩
abbrev main_call6_c_2 : Ref sig .tc := ⟨.hbm, 109, rfl⟩
abbrev main_call6_v7 : Ref sig .tc := ⟨.hbm, 110, rfl⟩
abbrev main_call6_v8 : Ref sig .tc := ⟨.hbm, 111, rfl⟩
abbrev main_call6_c_3 : Ref sig .tc := ⟨.hbm, 112, rfl⟩
abbrev main_call6_v9 : Ref sig .tc := ⟨.hbm, 113, rfl⟩
abbrev main_call6_v10 : Ref sig .tc := ⟨.hbm, 114, rfl⟩
abbrev main_call6_v11 : Ref sig .tc := ⟨.hbm, 115, rfl⟩
abbrev main_call6_v12 : Ref sig .tc := ⟨.hbm, 116, rfl⟩
abbrev main_call6_v13 : Ref sig .tc := ⟨.hbm, 117, rfl⟩
abbrev main_call6_v14 : Ref sig .tc := ⟨.hbm, 118, rfl⟩
abbrev main_v29 : Ref sig .tc := ⟨.hbm, 119, rfl⟩
abbrev main_v30 : Ref sig .tc := ⟨.hbm, 120, rfl⟩
abbrev main_call7_c : Ref sig .tc := ⟨.hbm, 121, rfl⟩
abbrev main_call7_v0 : Ref sig .tc := ⟨.hbm, 122, rfl⟩
abbrev main_call7_v1 : Ref sig .tc := ⟨.hbm, 123, rfl⟩
abbrev main_call7_c_0 : Ref sig .tc := ⟨.hbm, 124, rfl⟩
abbrev main_call7_v2 : Ref sig .tc := ⟨.hbm, 125, rfl⟩
abbrev main_call7_v3 : Ref sig .tc := ⟨.hbm, 126, rfl⟩
abbrev main_call7_v4 : Ref sig .tc := ⟨.hbm, 127, rfl⟩
abbrev main_call7_v5 : Ref sig .tc := ⟨.hbm, 128, rfl⟩
abbrev main_call7_c_1 : Ref sig .tc := ⟨.hbm, 129, rfl⟩
abbrev main_call7_c_2 : Ref sig .tc := ⟨.hbm, 130, rfl⟩
abbrev main_call7_v6 : Ref sig .tc := ⟨.hbm, 131, rfl⟩
abbrev main_call7_v7 : Ref sig .tc := ⟨.hbm, 132, rfl⟩
abbrev main_call7_v8 : Ref sig .tc := ⟨.hbm, 133, rfl⟩
abbrev main_call7_v9 : Ref sig .tc := ⟨.hbm, 134, rfl⟩
abbrev main_call7_v10 : Ref sig .tc := ⟨.hbm, 135, rfl⟩
abbrev main_call7_v11 : Ref sig .tc := ⟨.hbm, 136, rfl⟩
abbrev main_call7_c_3 : Ref sig .tc := ⟨.hbm, 137, rfl⟩
abbrev main_call7_v12 : Ref sig .tc := ⟨.hbm, 138, rfl⟩
abbrev main_call7_v13 : Ref sig .tc := ⟨.hbm, 139, rfl⟩
abbrev main_call7_v14 : Ref sig .tc := ⟨.hbm, 140, rfl⟩
abbrev main_call7_cst : Ref sig .tc := ⟨.hbm, 141, rfl⟩
abbrev main_call7_v15 : Ref sig .tc := ⟨.hbm, 142, rfl⟩
abbrev main_v31 : Ref sig .tc := ⟨.hbm, 143, rfl⟩
abbrev main_v32 : Ref sig .tc := ⟨.hbm, 144, rfl⟩
abbrev main_call8_c : Ref sig .tc := ⟨.hbm, 145, rfl⟩
abbrev main_call8_v0 : Ref sig .tc := ⟨.hbm, 146, rfl⟩
abbrev main_call8_v1 : Ref sig .tc := ⟨.hbm, 147, rfl⟩
abbrev main_call8_c_0 : Ref sig .tc := ⟨.hbm, 148, rfl⟩
abbrev main_call8_v2 : Ref sig .tc := ⟨.hbm, 149, rfl⟩
abbrev main_call8_v3 : Ref sig .tc := ⟨.hbm, 150, rfl⟩
abbrev main_call8_v4 : Ref sig .tc := ⟨.hbm, 151, rfl⟩
abbrev main_call8_v5 : Ref sig .tc := ⟨.hbm, 152, rfl⟩
abbrev main_call8_c_1 : Ref sig .tc := ⟨.hbm, 153, rfl⟩
abbrev main_call8_c_2 : Ref sig .tc := ⟨.hbm, 154, rfl⟩
abbrev main_call8_v6 : Ref sig .tc := ⟨.hbm, 155, rfl⟩
abbrev main_call8_v7 : Ref sig .tc := ⟨.hbm, 156, rfl⟩
abbrev main_call8_v8 : Ref sig .tc := ⟨.hbm, 157, rfl⟩
abbrev main_call8_v9 : Ref sig .tc := ⟨.hbm, 158, rfl⟩
abbrev main_call8_v10 : Ref sig .tc := ⟨.hbm, 159, rfl⟩
abbrev main_call8_v11 : Ref sig .tc := ⟨.hbm, 160, rfl⟩
abbrev main_call8_c_3 : Ref sig .tc := ⟨.hbm, 161, rfl⟩
abbrev main_call8_v12 : Ref sig .tc := ⟨.hbm, 162, rfl⟩
abbrev main_call8_v13 : Ref sig .tc := ⟨.hbm, 163, rfl⟩
abbrev main_call8_v14 : Ref sig .tc := ⟨.hbm, 164, rfl⟩
abbrev main_call8_cst : Ref sig .tc := ⟨.hbm, 165, rfl⟩
abbrev main_call8_v15 : Ref sig .tc := ⟨.hbm, 166, rfl⟩
abbrev main_v33 : Ref sig .tc := ⟨.hbm, 167, rfl⟩
abbrev main_v34 : Ref sig .tc := ⟨.hbm, 168, rfl⟩
abbrev main_v35 : Ref sig .tc := ⟨.hbm, 169, rfl⟩
abbrev main_v36 : Ref sig .tc := ⟨.hbm, 170, rfl⟩
abbrev main_v37 : Ref sig .tc := ⟨.hbm, 171, rfl⟩
abbrev main_v38 : Ref sig .tc := ⟨.hbm, 172, rfl⟩
abbrev main_v39 : Ref sig .tc := ⟨.hbm, 173, rfl⟩
abbrev main_call9_c : Ref sig .tc := ⟨.hbm, 174, rfl⟩
abbrev main_call9_v0 : Ref sig .tc := ⟨.hbm, 175, rfl⟩
abbrev main_call9_v1 : Ref sig .tc := ⟨.hbm, 176, rfl⟩
abbrev main_call9_c_0 : Ref sig .tc := ⟨.hbm, 177, rfl⟩
abbrev main_call9_v2 : Ref sig .tc := ⟨.hbm, 178, rfl⟩
abbrev main_call9_v3 : Ref sig .tc := ⟨.hbm, 179, rfl⟩
abbrev main_call9_v4 : Ref sig .tc := ⟨.hbm, 180, rfl⟩
abbrev main_call9_v5 : Ref sig .tc := ⟨.hbm, 181, rfl⟩
abbrev main_call9_c_1 : Ref sig .tc := ⟨.hbm, 182, rfl⟩
abbrev main_call9_c_2 : Ref sig .tc := ⟨.hbm, 183, rfl⟩
abbrev main_call9_v6 : Ref sig .tc := ⟨.hbm, 184, rfl⟩
abbrev main_call9_v7 : Ref sig .tc := ⟨.hbm, 185, rfl⟩
abbrev main_call9_v8 : Ref sig .tc := ⟨.hbm, 186, rfl⟩
abbrev main_call9_v9 : Ref sig .tc := ⟨.hbm, 187, rfl⟩
abbrev main_call9_v10 : Ref sig .tc := ⟨.hbm, 188, rfl⟩
abbrev main_call9_v11 : Ref sig .tc := ⟨.hbm, 189, rfl⟩
abbrev main_call9_c_3 : Ref sig .tc := ⟨.hbm, 190, rfl⟩
abbrev main_call9_v12 : Ref sig .tc := ⟨.hbm, 191, rfl⟩
abbrev main_call9_v13 : Ref sig .tc := ⟨.hbm, 192, rfl⟩
abbrev main_call9_v14 : Ref sig .tc := ⟨.hbm, 193, rfl⟩
abbrev main_call9_cst : Ref sig .tc := ⟨.hbm, 194, rfl⟩
abbrev main_call9_v15 : Ref sig .tc := ⟨.hbm, 195, rfl⟩
abbrev main_v40 : Ref sig .tc := ⟨.hbm, 196, rfl⟩
abbrev main_v41 : Ref sig .tc := ⟨.hbm, 197, rfl⟩
abbrev main_v42 : Ref sig .tc := ⟨.hbm, 198, rfl⟩
abbrev main_v43 : Ref sig .tc := ⟨.hbm, 199, rfl⟩
abbrev main_v44 : Ref sig .tc := ⟨.hbm, 200, rfl⟩
abbrev main_v45 : Ref sig .tc := ⟨.hbm, 201, rfl⟩
abbrev main_v46 : Ref sig .tc := ⟨.hbm, 202, rfl⟩
abbrev main_v47 : Ref sig .tc := ⟨.hbm, 203, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc1_stg6_0 : Ref sig .tc := ⟨.vmem, 22, rfl⟩
abbrev cc1_stg6_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg2_0 : Ref sig .tc := ⟨.vmem, 27, rfl⟩
abbrev cc2_stg3_0 : Ref sig .tc := ⟨.vmem, 28, rfl⟩
abbrev cc2_stg3_1 : Ref sig .tc := ⟨.vmem, 29, rfl⟩
abbrev cc2_stg4_0 : Ref sig .tc := ⟨.vmem, 30, rfl⟩
abbrev cc2_stg4_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc1_sem6_0 : DmaSem sig := 22
abbrev cc1_sem6_1 : DmaSem sig := 23
abbrev cc2_sem0_0 : DmaSem sig := 24
abbrev cc2_sem0_1 : DmaSem sig := 25
abbrev cc2_sem1_0 : DmaSem sig := 26
abbrev cc2_sem2_0 : DmaSem sig := 27
abbrev cc2_sem3_0 : DmaSem sig := 28
abbrev cc2_sem3_1 : DmaSem sig := 29
abbrev cc2_sem4_0 : DmaSem sig := 30
abbrev cc2_sem4_1 : DmaSem sig := 31

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S384x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S9x384x96 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S384x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x96 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨2, ![4, 98], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c1_i32 : BitVec 32 := 1#32
  let v1 : BitVec 32 := Scalar.subi v0 c1_i32
  let c784_i32 : BitVec 32 := 784#32
  let c0_i32 : BitVec 32 := 0#32
  let v2 : BitVec 1 := Scalar.cmpi .eq c784_i32 c0_i32
  let c1_i32_0 : BitVec 32 := 1#32
  let v3 : BitVec 32 := Scalar.select v2 c1_i32_0 c784_i32
  let v4 : BitVec 32 := Scalar.remsi v1 v3
  let c0_i32_1 : BitVec 32 := 0#32
  let v5 : BitVec 1 := Scalar.cmpi .ne v4 c0_i32_1
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let v9 : BitVec 1 := Scalar.andi v8 v5
  let v10 : BitVec 32 := Scalar.addi v4 v3
  let v11 : BitVec 32 := Scalar.select v9 v10 v4
  let c0_i32_4 : BitVec 32 := 0#32
  let c0_i32_5 : BitVec 32 := 0#32
  ![arg0.toNat, v11.toNat, c0_i32_4.toNat]

def cc1_transform_2 (i : grid1.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c8_i32_0 : BitVec 32 := 8#32
  let v1 : BitVec 32 := Scalar.addi v0 c8_i32_0
  let c784_i32 : BitVec 32 := 784#32
  let c0_i32 : BitVec 32 := 0#32
  let v2 : BitVec 1 := Scalar.cmpi .eq c784_i32 c0_i32
  let c1_i32 : BitVec 32 := 1#32
  let v3 : BitVec 32 := Scalar.select v2 c1_i32 c784_i32
  let v4 : BitVec 32 := Scalar.remsi v1 v3
  let c0_i32_1 : BitVec 32 := 0#32
  let v5 : BitVec 1 := Scalar.cmpi .ne v4 c0_i32_1
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let v9 : BitVec 1 := Scalar.andi v8 v5
  let v10 : BitVec 32 := Scalar.addi v4 v3
  let v11 : BitVec 32 := Scalar.select v9 v10 v4
  let c0_i32_4 : BitVec 32 := 0#32
  let c0_i32_5 : BitVec 32 := 0#32
  ![arg0.toNat, v11.toNat, c0_i32_4.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_4 (i : grid1.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c1_i32 : BitVec 32 := 1#32
  let v1 : BitVec 32 := Scalar.subi v0 c1_i32
  let c784_i32 : BitVec 32 := 784#32
  let c0_i32 : BitVec 32 := 0#32
  let v2 : BitVec 1 := Scalar.cmpi .eq c784_i32 c0_i32
  let c1_i32_0 : BitVec 32 := 1#32
  let v3 : BitVec 32 := Scalar.select v2 c1_i32_0 c784_i32
  let v4 : BitVec 32 := Scalar.remsi v1 v3
  let c0_i32_1 : BitVec 32 := 0#32
  let v5 : BitVec 1 := Scalar.cmpi .ne v4 c0_i32_1
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let v9 : BitVec 1 := Scalar.andi v8 v5
  let v10 : BitVec 32 := Scalar.addi v4 v3
  let v11 : BitVec 32 := Scalar.select v9 v10 v4
  let c0_i32_4 : BitVec 32 := 0#32
  let c0_i32_5 : BitVec 32 := 0#32
  ![arg0.toNat, v11.toNat, c0_i32_4.toNat]

def cc1_transform_5 (i : grid1.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c8_i32_0 : BitVec 32 := 8#32
  let v1 : BitVec 32 := Scalar.addi v0 c8_i32_0
  let c784_i32 : BitVec 32 := 784#32
  let c0_i32 : BitVec 32 := 0#32
  let v2 : BitVec 1 := Scalar.cmpi .eq c784_i32 c0_i32
  let c1_i32 : BitVec 32 := 1#32
  let v3 : BitVec 32 := Scalar.select v2 c1_i32 c784_i32
  let v4 : BitVec 32 := Scalar.remsi v1 v3
  let c0_i32_1 : BitVec 32 := 0#32
  let v5 : BitVec 1 := Scalar.cmpi .ne v4 c0_i32_1
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let v9 : BitVec 1 := Scalar.andi v8 v5
  let v10 : BitVec 32 := Scalar.addi v4 v3
  let v11 : BitVec 32 := Scalar.select v9 v10 v4
  let c0_i32_4 : BitVec 32 := 0#32
  let c0_i32_5 : BitVec 32 := 0#32
  ![arg0.toNat, v11.toNat, c0_i32_4.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x512x96 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x64x96 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x64x96 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x512x384 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x64x384 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x64x384 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1x512x384 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev grid2 : Pipeline.Grid := ⟨1, ![98], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x1536 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1536x384 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x384 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S512x384 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S512x384 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]
-- ==== ReferenceIdeal.lean ====
abbrev S1x384x224x224 : Shape := ⟨4, ![1, 384, 224, 224]⟩
abbrev S1x4x224x224 : Shape := ⟨4, ![1, 4, 224, 224]⟩
abbrev S96x384x3x3 : Shape := ⟨4, ![96, 384, 3, 3]⟩
abbrev S384x384x1x1 : Shape := ⟨4, ![384, 384, 1, 1]⟩
abbrev S384x1536x1x1 : Shape := ⟨4, ![384, 1536, 1, 1]⟩
abbrev S384 : Shape := ⟨1, ![384]⟩
abbrev S_ : Shape := ⟨0, ![]⟩
abbrev S1x384x1x224 : Shape := ⟨4, ![1, 384, 1, 224]⟩
abbrev S1x384x225x224 : Shape := ⟨4, ![1, 384, 225, 224]⟩
abbrev S1x384x226x224 : Shape := ⟨4, ![1, 384, 226, 224]⟩
abbrev S1x384x226x1 : Shape := ⟨4, ![1, 384, 226, 1]⟩
abbrev S1x384x226x225 : Shape := ⟨4, ![1, 384, 226, 225]⟩
abbrev S1x384x226x226 : Shape := ⟨4, ![1, 384, 226, 226]⟩
abbrev S1x96x224x224 : Shape := ⟨4, ![1, 96, 224, 224]⟩
abbrev S96x384x1x1 : Shape := ⟨4, ![96, 384, 1, 1]⟩
abbrev S96x384 : Shape := ⟨2, ![96, 384]⟩
abbrev S1x224x224x96 : Shape := ⟨4, ![1, 224, 224, 96]⟩
abbrev S384x384 : Shape := ⟨2, ![384, 384]⟩
abbrev S1x224x224x384 : Shape := ⟨4, ![1, 224, 224, 384]⟩
abbrev S1x96x50176 : Shape := ⟨3, ![1, 96, 50176]⟩
abbrev S1x50176x96 : Shape := ⟨3, ![1, 50176, 96]⟩
abbrev S1x384x50176 : Shape := ⟨3, ![1, 384, 50176]⟩
abbrev S1x50176x384 : Shape := ⟨3, ![1, 50176, 384]⟩
abbrev S1x4x50176 : Shape := ⟨3, ![1, 4, 50176]⟩
abbrev S4 : Shape := ⟨1, ![4]⟩
abbrev S1x4x1 : Shape := ⟨3, ![1, 4, 1]⟩
abbrev S1x200704 : Shape := ⟨2, ![1, 200704]⟩
abbrev S1x200704x1 : Shape := ⟨3, ![1, 200704, 1]⟩
abbrev S1x200704x96 : Shape := ⟨3, ![1, 200704, 96]⟩
abbrev S200704x96x1 : Shape := ⟨3, ![200704, 96, 1]⟩
abbrev S1 : Shape := ⟨1, ![1]⟩
abbrev S1x1x1 : Shape := ⟨3, ![1, 1, 1]⟩
abbrev S200704x96 : Shape := ⟨2, ![200704, 96]⟩
abbrev S1x200704x384 : Shape := ⟨3, ![1, 200704, 384]⟩
abbrev S200704x384x1 : Shape := ⟨3, ![200704, 384, 1]⟩
abbrev S200704x384 : Shape := ⟨2, ![200704, 384]⟩
abbrev S1x4x784x64x96 : Shape := ⟨5, ![1, 4, 784, 64, 96]⟩
abbrev S1x4x784x64x384 : Shape := ⟨5, ![1, 4, 784, 64, 384]⟩
abbrev S1x4x784x64 : Shape := ⟨4, ![1, 4, 784, 64]⟩
abbrev S1x4x784x64x1 : Shape := ⟨5, ![1, 4, 784, 64, 1]⟩
abbrev S1x4x1x64x96 : Shape := ⟨5, ![1, 4, 1, 64, 96]⟩
abbrev S1x4x783x64x96 : Shape := ⟨5, ![1, 4, 783, 64, 96]⟩
abbrev S1x4x784x192x96 : Shape := ⟨5, ![1, 4, 784, 192, 96]⟩
abbrev S1x4x1x64x384 : Shape := ⟨5, ![1, 4, 1, 64, 384]⟩
abbrev S1x4x783x64x384 : Shape := ⟨5, ![1, 4, 783, 64, 384]⟩
abbrev S1x4x784x192x384 : Shape := ⟨5, ![1, 4, 784, 192, 384]⟩
abbrev S1x4x784x64x192 : Shape := ⟨5, ![1, 4, 784, 64, 192]⟩
abbrev S1x4x50176x384 : Shape := ⟨4, ![1, 4, 50176, 384]⟩
abbrev S1x4x384x50176 : Shape := ⟨4, ![1, 4, 384, 50176]⟩
abbrev S1x1536x224x224 : Shape := ⟨4, ![1, 1536, 224, 224]⟩
abbrev S384x1536 : Shape := ⟨2, ![384, 1536]⟩
abbrev S1x384x1x1 : Shape := ⟨4, ![1, 384, 1, 1]⟩

abbrev nBuf : Space → Nat
  | .hbm => 260
  | .vmem => 0
  | .smem => 0
  | _ => 0

abbrev hbmTy0_0 (i : Nat) : BufTy := match i % 128 with
  | 0 => ⟨S1x384x224x224, .f32⟩
  | 1 => ⟨S1x4x224x224, .i32⟩
  | 2 => ⟨S96x384x3x3, .f32⟩
  | 3 => ⟨S384x384x1x1, .f32⟩
  | 4 => ⟨S384x1536x1x1, .f32⟩
  | 5 => ⟨S384, .f32⟩
  | 6 => ⟨S_, .i32⟩
  | 7 => ⟨S1x384x1x224, .f32⟩
  | 8 => ⟨S1x384x1x224, .f32⟩
  | 9 => ⟨S1x384x1x224, .f32⟩
  | 10 => ⟨S1x384x225x224, .f32⟩
  | 11 => ⟨S1x384x1x224, .f32⟩
  | 12 => ⟨S1x384x1x224, .f32⟩
  | 13 => ⟨S1x384x1x224, .f32⟩
  | 14 => ⟨S1x384x226x224, .f32⟩
  | 15 => ⟨S1x384x226x1, .f32⟩
  | 16 => ⟨S1x384x226x1, .f32⟩
  | 17 => ⟨S1x384x226x1, .f32⟩
  | 18 => ⟨S1x384x226x225, .f32⟩
  | 19 => ⟨S1x384x226x1, .f32⟩
  | 20 => ⟨S1x384x226x1, .f32⟩
  | 21 => ⟨S1x384x226x1, .f32⟩
  | 22 => ⟨S1x384x226x226, .f32⟩
  | 23 => ⟨S_, .f32⟩
  | 24 => ⟨S1x96x224x224, .f32⟩
  | 25 => ⟨S96x384x1x1, .f32⟩
  | 26 => ⟨S96x384, .f32⟩
  | 27 => ⟨S1x384x224x224, .f32⟩
  | 28 => ⟨S1x224x224x96, .f32⟩
  | 29 => ⟨S1x96x224x224, .f32⟩
  | 30 => ⟨S1x96x224x224, .f32⟩
  | 31 => ⟨S96x384x1x1, .f32⟩
  | 32 => ⟨S96x384, .f32⟩
  | 33 => ⟨S1x384x224x224, .f32⟩
  | 34 => ⟨S1x224x224x96, .f32⟩
  | 35 => ⟨S1x96x224x224, .f32⟩
  | 36 => ⟨S1x96x224x224, .f32⟩
  | 37 => ⟨S96x384x1x1, .f32⟩
  | 38 => ⟨S96x384, .f32⟩
  | 39 => ⟨S1x384x224x224, .f32⟩
  | 40 => ⟨S1x224x224x96, .f32⟩
  | 41 => ⟨S1x96x224x224, .f32⟩
  | 42 => ⟨S1x96x224x224, .f32⟩
  | 43 => ⟨S96x384x1x1, .f32⟩
  | 44 => ⟨S96x384, .f32⟩
  | 45 => ⟨S1x384x224x224, .f32⟩
  | 46 => ⟨S1x224x224x96, .f32⟩
  | 47 => ⟨S1x96x224x224, .f32⟩
  | 48 => ⟨S1x96x224x224, .f32⟩
  | 49 => ⟨S96x384x1x1, .f32⟩
  | 50 => ⟨S96x384, .f32⟩
  | 51 => ⟨S1x384x224x224, .f32⟩
  | 52 => ⟨S1x224x224x96, .f32⟩
  | 53 => ⟨S1x96x224x224, .f32⟩
  | 54 => ⟨S1x96x224x224, .f32⟩
  | 55 => ⟨S96x384x1x1, .f32⟩
  | 56 => ⟨S96x384, .f32⟩
  | 57 => ⟨S1x384x224x224, .f32⟩
  | 58 => ⟨S1x224x224x96, .f32⟩
  | 59 => ⟨S1x96x224x224, .f32⟩
  | 60 => ⟨S1x96x224x224, .f32⟩
  | 61 => ⟨S96x384x1x1, .f32⟩
  | 62 => ⟨S96x384, .f32⟩
  | 63 => ⟨S1x384x224x224, .f32⟩
  | 64 => ⟨S1x224x224x96, .f32⟩
  | 65 => ⟨S1x96x224x224, .f32⟩
  | 66 => ⟨S1x96x224x224, .f32⟩
  | 67 => ⟨S96x384x1x1, .f32⟩
  | 68 => ⟨S96x384, .f32⟩
  | 69 => ⟨S1x384x224x224, .f32⟩
  | 70 => ⟨S1x224x224x96, .f32⟩
  | 71 => ⟨S1x96x224x224, .f32⟩
  | 72 => ⟨S1x96x224x224, .f32⟩
  | 73 => ⟨S96x384x1x1, .f32⟩
  | 74 => ⟨S96x384, .f32⟩
  | 75 => ⟨S1x384x224x224, .f32⟩
  | 76 => ⟨S1x224x224x96, .f32⟩
  | 77 => ⟨S1x96x224x224, .f32⟩
  | 78 => ⟨S1x96x224x224, .f32⟩
  | 79 => ⟨S384x384, .f32⟩
  | 80 => ⟨S1x224x224x384, .f32⟩
  | 81 => ⟨S1x384x224x224, .f32⟩
  | 82 => ⟨S1x96x50176, .f32⟩
  | 83 => ⟨S1x50176x96, .f32⟩
  | 84 => ⟨S1x384x50176, .f32⟩
  | 85 => ⟨S1x50176x384, .f32⟩
  | 86 => ⟨S1x4x50176, .i32⟩
  | 87 => ⟨S4, .i32⟩
  | 88 => ⟨S_, .i32⟩
  | 89 => ⟨S4, .i32⟩
  | 90 => ⟨S4, .i32⟩
  | 91 => ⟨S1x4x1, .i32⟩
  | 92 => ⟨S1x4x50176, .i32⟩
  | 93 => ⟨S1x4x50176, .i32⟩
  | 94 => ⟨S1x200704, .i32⟩
  | 95 => ⟨S1x200704, .i32⟩
  | 96 => ⟨S1x200704, .i32⟩
  | 97 => ⟨S1x200704, .i32⟩
  | 98 => ⟨S1x200704, .i32⟩
  | 99 => ⟨S1x200704, .i32⟩
  | 100 => ⟨S1x200704, .i32⟩
  | 101 => ⟨S_, .i32⟩
  | 102 => ⟨S_, .i32⟩
  | 103 => ⟨S_, .i32⟩
  | 104 => ⟨S_, .i1⟩
  | 105 => ⟨S_, .i32⟩
  | 106 => ⟨S_, .i32⟩
  | 107 => ⟨S1x200704, .i32⟩
  | 108 => ⟨S1x200704, .i32⟩
  | 109 => ⟨S_, .i32⟩
  | 110 => ⟨S1x200704, .i32⟩
  | 111 => ⟨S1x200704, .i1⟩
  | 112 => ⟨S_, .i32⟩
  | 113 => ⟨S1x200704, .i32⟩
  | 114 => ⟨S1x200704, .i1⟩
  | 115 => ⟨S_, .i32⟩
  | 116 => ⟨S_, .i1⟩
  | 117 => ⟨S1x200704, .i1⟩
  | 118 => ⟨S1x200704, .i1⟩
  | 119 => ⟨S1x200704, .i1⟩
  | 120 => ⟨S1x200704, .i32⟩
  | 121 => ⟨S1x200704, .i32⟩
  | 122 => ⟨S1x200704, .i32⟩
  | 123 => ⟨S1x200704x1, .i32⟩
  | 124 => ⟨S1x200704x96, .i32⟩
  | 125 => ⟨S_, .i32⟩
  | 126 => ⟨S1x200704x96, .i32⟩
  | 127 => ⟨S1x200704x96, .i1⟩
  | _ => ⟨S1x384x224x224, .f32⟩

abbrev hbmTy0_1 (i : Nat) : BufTy := match i % 128 with
  | 0 => ⟨S_, .i32⟩
  | 1 => ⟨S1x200704x96, .i32⟩
  | 2 => ⟨S1x200704x96, .i32⟩
  | 3 => ⟨S1x200704x96, .i32⟩
  | 4 => ⟨S200704x96x1, .i32⟩
  | 5 => ⟨S1, .i32⟩
  | 6 => ⟨S_, .i32⟩
  | 7 => ⟨S200704x96x1, .i32⟩
  | 8 => ⟨S200704x96x1, .i1⟩
  | 9 => ⟨S1x1x1, .i32⟩
  | 10 => ⟨S200704x96x1, .i32⟩
  | 11 => ⟨S200704x96x1, .i1⟩
  | 12 => ⟨S200704x96x1, .i1⟩
  | 13 => ⟨S_, .i1⟩
  | 14 => ⟨S200704x96, .i1⟩
  | 15 => ⟨S1x200704x96, .f32⟩
  | 16 => ⟨S1x200704x96, .i1⟩
  | 17 => ⟨S_, .f32⟩
  | 18 => ⟨S1x200704x96, .f32⟩
  | 19 => ⟨S1x200704x96, .f32⟩
  | 20 => ⟨S1x200704x1, .i32⟩
  | 21 => ⟨S1x200704x384, .i32⟩
  | 22 => ⟨S_, .i32⟩
  | 23 => ⟨S1x200704x384, .i32⟩
  | 24 => ⟨S1x200704x384, .i1⟩
  | 25 => ⟨S_, .i32⟩
  | 26 => ⟨S1x200704x384, .i32⟩
  | 27 => ⟨S1x200704x384, .i32⟩
  | 28 => ⟨S1x200704x384, .i32⟩
  | 29 => ⟨S200704x384x1, .i32⟩
  | 30 => ⟨S1, .i32⟩
  | 31 => ⟨S_, .i32⟩
  | 32 => ⟨S200704x384x1, .i32⟩
  | 33 => ⟨S200704x384x1, .i1⟩
  | 34 => ⟨S1x1x1, .i32⟩
  | 35 => ⟨S200704x384x1, .i32⟩
  | 36 => ⟨S200704x384x1, .i1⟩
  | 37 => ⟨S200704x384x1, .i1⟩
  | 38 => ⟨S_, .i1⟩
  | 39 => ⟨S200704x384, .i1⟩
  | 40 => ⟨S1x200704x384, .f32⟩
  | 41 => ⟨S1x200704x384, .i1⟩
  | 42 => ⟨S_, .f32⟩
  | 43 => ⟨S1x200704x384, .f32⟩
  | 44 => ⟨S1x200704x384, .f32⟩
  | 45 => ⟨S1x4x784x64x96, .f32⟩
  | 46 => ⟨S1x4x784x64x384, .f32⟩
  | 47 => ⟨S1x4x784x64x96, .f32⟩
  | 48 => ⟨S_, .f32⟩
  | 49 => ⟨S1x4x784x64, .f32⟩
  | 50 => ⟨S1x4x784x64x1, .f32⟩
  | 51 => ⟨S1x4x784x64x1, .f32⟩
  | 52 => ⟨S_, .f32⟩
  | 53 => ⟨S1x4x784x64x1, .f32⟩
  | 54 => ⟨S1x4x784x64x1, .f32⟩
  | 55 => ⟨S1x4x784x64x96, .f32⟩
  | 56 => ⟨S1x4x784x64x96, .f32⟩
  | 57 => ⟨S1x4x1x64x96, .f32⟩
  | 58 => ⟨S1x4x783x64x96, .f32⟩
  | 59 => ⟨S1x4x784x64x96, .f32⟩
  | 60 => ⟨S1x4x783x64x96, .f32⟩
  | 61 => ⟨S1x4x1x64x96, .f32⟩
  | 62 => ⟨S1x4x784x64x96, .f32⟩
  | 63 => ⟨S1x4x784x192x96, .f32⟩
  | 64 => ⟨S1x4x1x64x384, .f32⟩
  | 65 => ⟨S1x4x783x64x384, .f32⟩
  | 66 => ⟨S1x4x784x64x384, .f32⟩
  | 67 => ⟨S1x4x783x64x384, .f32⟩
  | 68 => ⟨S1x4x1x64x384, .f32⟩
  | 69 => ⟨S1x4x784x64x384, .f32⟩
  | 70 => ⟨S1x4x784x192x384, .f32⟩
  | 71 => ⟨S1x4x784x64x192, .f32⟩
  | 72 => ⟨S_, .f32⟩
  | 73 => ⟨S1x4x784x64, .f32⟩
  | 74 => ⟨S1x4x784x64x1, .f32⟩
  | 75 => ⟨S1x4x784x64x1, .f32⟩
  | 76 => ⟨S_, .f32⟩
  | 77 => ⟨S1x4x784x64x1, .f32⟩
  | 78 => ⟨S1x4x784x64x1, .i1⟩
  | 79 => ⟨S_, .f32⟩
  | 80 => ⟨S_, .f32⟩
  | 81 => ⟨S1x4x784x64x1, .f32⟩
  | 82 => ⟨S1x4x784x64x1, .f32⟩
  | 83 => ⟨S1x4x784x64x192, .f32⟩
  | 84 => ⟨S1x4x784x64x192, .f32⟩
  | 85 => ⟨S1x4x784x64x192, .f32⟩
  | 86 => ⟨S_, .f32⟩
  | 87 => ⟨S1x4x784x64, .f32⟩
  | 88 => ⟨S1x4x784x64x1, .f32⟩
  | 89 => ⟨S1x4x784x64x1, .f32⟩
  | 90 => ⟨S1x4x784x64x1, .f32⟩
  | 91 => ⟨S1x4x784x64x192, .f32⟩
  | 92 => ⟨S1x4x784x64x192, .f32⟩
  | 93 => ⟨S1x4x784x64x192, .f32⟩
  | 94 => ⟨S1x4x784x64x384, .f32⟩
  | 95 => ⟨S1x4x50176x384, .f32⟩
  | 96 => ⟨S1x200704x384, .f32⟩
  | 97 => ⟨S1x200704x1, .i32⟩
  | 98 => ⟨S1x200704x384, .i32⟩
  | 99 => ⟨S_, .i32⟩
  | 100 => ⟨S1x200704x384, .i32⟩
  | 101 => ⟨S1x200704x384, .i1⟩
  | 102 => ⟨S_, .i32⟩
  | 103 => ⟨S1x200704x384, .i32⟩
  | 104 => ⟨S1x200704x384, .i32⟩
  | 105 => ⟨S1x200704x384, .i32⟩
  | 106 => ⟨S200704x384x1, .i32⟩
  | 107 => ⟨S1, .i32⟩
  | 108 => ⟨S_, .i32⟩
  | 109 => ⟨S200704x384x1, .i32⟩
  | 110 => ⟨S200704x384x1, .i1⟩
  | 111 => ⟨S1x1x1, .i32⟩
  | 112 => ⟨S200704x384x1, .i32⟩
  | 113 => ⟨S200704x384x1, .i1⟩
  | 114 => ⟨S200704x384x1, .i1⟩
  | 115 => ⟨S_, .i1⟩
  | 116 => ⟨S200704x384, .i1⟩
  | 117 => ⟨S1x200704x384, .f32⟩
  | 118 => ⟨S1x200704x384, .i1⟩
  | 119 => ⟨S_, .f32⟩
  | 120 => ⟨S1x200704x384, .f32⟩
  | 121 => ⟨S1x200704x384, .f32⟩
  | 122 => ⟨S1x4x50176x384, .f32⟩
  | 123 => ⟨S1x4x384x50176, .f32⟩
  | 124 => ⟨S1x1536x224x224, .f32⟩
  | 125 => ⟨S384x1536, .f32⟩
  | 126 => ⟨S1x224x224x384, .f32⟩
  | 127 => ⟨S1x384x224x224, .f32⟩
  | _ => ⟨S1x384x224x224, .f32⟩

abbrev hbmTy0_2 (i : Nat) : BufTy := match i % 128 with
  | 0 => ⟨S1x384x1x1, .f32⟩
  | 1 => ⟨S1x384x224x224, .f32⟩
  | 2 => ⟨S1x384x224x224, .f32⟩
  | 3 => ⟨S1x384x224x224, .f32⟩
  | _ => ⟨S1x384x224x224, .f32⟩

abbrev hbmTy (i : Nat) : BufTy := match i / 128 with
  | 0 => hbmTy0_0 i
  | 1 => hbmTy0_1 i
  | 2 => hbmTy0_2 i
  | _ => ⟨S1x384x224x224, .f32⟩

abbrev bufTy : (tb : Table) → Fin (tcTables nBuf tb) → BufTy
  | .hbm, ⟨i, _⟩ => hbmTy i
  | _, _ => ⟨S1x384x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_v0 : Ref sig .tc := ⟨.hbm, 22, rfl⟩
abbrev main_cst : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_c_0 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_call1_v0 : Ref sig .tc := ⟨.hbm, 95, rfl⟩
abbrev main_call1_v1_0 : Ref sig .tc := ⟨.hbm, 96, rfl⟩
abbrev main_v71 : Ref sig .tc := ⟨.hbm, 97, rfl⟩
abbrev main_call2_v0 : Ref sig .tc := ⟨.hbm, 98, rfl⟩
abbrev main_call2_v1_0 : Ref sig .tc := ⟨.hbm, 99, rfl⟩
abbrev main_v72 : Ref sig .tc := ⟨.hbm, 100, rfl⟩
abbrev main_c_1 : Ref sig .tc := ⟨.hbm, 101, rfl⟩
abbrev main_call3_v0 : Ref sig .tc := ⟨.hbm, 102, rfl⟩
abbrev main_call3_c : Ref sig .tc := ⟨.hbm, 103, rfl⟩
abbrev main_call3_v1 : Ref sig .tc := ⟨.hbm, 104, rfl⟩
abbrev main_call3_c_0 : Ref sig .tc := ⟨.hbm, 105, rfl⟩
abbrev main_call3_v2 : Ref sig .tc := ⟨.hbm, 106, rfl⟩
abbrev main_call3_v3 : Ref sig .tc := ⟨.hbm, 107, rfl⟩
abbrev main_call3_v4 : Ref sig .tc := ⟨.hbm, 108, rfl⟩
abbrev main_call3_c_1 : Ref sig .tc := ⟨.hbm, 109, rfl⟩
abbrev main_call3_v5 : Ref sig .tc := ⟨.hbm, 110, rfl⟩
abbrev main_call3_v6 : Ref sig .tc := ⟨.hbm, 111, rfl⟩
abbrev main_call3_c_2 : Ref sig .tc := ⟨.hbm, 112, rfl⟩
abbrev main_call3_v7 : Ref sig .tc := ⟨.hbm, 113, rfl⟩
abbrev main_call3_v8 : Ref sig .tc := ⟨.hbm, 114, rfl⟩
abbrev main_call3_c_3 : Ref sig .tc := ⟨.hbm, 115, rfl⟩
abbrev main_call3_v9 : Ref sig .tc := ⟨.hbm, 116, rfl⟩
abbrev main_call3_v10 : Ref sig .tc := ⟨.hbm, 117, rfl⟩
abbrev main_call3_v11 : Ref sig .tc := ⟨.hbm, 118, rfl⟩
abbrev main_call3_v12 : Ref sig .tc := ⟨.hbm, 119, rfl⟩
abbrev main_call3_v13 : Ref sig .tc := ⟨.hbm, 120, rfl⟩
abbrev main_call3_v14 : Ref sig .tc := ⟨.hbm, 121, rfl⟩
abbrev main_v73 : Ref sig .tc := ⟨.hbm, 122, rfl⟩
abbrev main_v74 : Ref sig .tc := ⟨.hbm, 123, rfl⟩
abbrev main_v75 : Ref sig .tc := ⟨.hbm, 124, rfl⟩
abbrev main_call4_c : Ref sig .tc := ⟨.hbm, 125, rfl⟩
abbrev main_call4_v0 : Ref sig .tc := ⟨.hbm, 126, rfl⟩
abbrev main_call4_v1 : Ref sig .tc := ⟨.hbm, 127, rfl⟩
abbrev main_call4_c_0 : Ref sig .tc := ⟨.hbm, 128, rfl⟩
abbrev main_call4_v2 : Ref sig .tc := ⟨.hbm, 129, rfl⟩
abbrev main_call4_v3 : Ref sig .tc := ⟨.hbm, 130, rfl⟩
abbrev main_call4_v4 : Ref sig .tc := ⟨.hbm, 131, rfl⟩
abbrev main_call4_v5 : Ref sig .tc := ⟨.hbm, 132, rfl⟩
abbrev main_call4_c_1 : Ref sig .tc := ⟨.hbm, 133, rfl⟩
abbrev main_call4_c_2 : Ref sig .tc := ⟨.hbm, 134, rfl⟩
abbrev main_call4_v6 : Ref sig .tc := ⟨.hbm, 135, rfl⟩
abbrev main_call4_v7 : Ref sig .tc := ⟨.hbm, 136, rfl⟩
abbrev main_call4_v8 : Ref sig .tc := ⟨.hbm, 137, rfl⟩
abbrev main_call4_v9 : Ref sig .tc := ⟨.hbm, 138, rfl⟩
abbrev main_call4_v10 : Ref sig .tc := ⟨.hbm, 139, rfl⟩
abbrev main_call4_v11 : Ref sig .tc := ⟨.hbm, 140, rfl⟩
abbrev main_call4_c_3 : Ref sig .tc := ⟨.hbm, 141, rfl⟩
abbrev main_call4_v12 : Ref sig .tc := ⟨.hbm, 142, rfl⟩
abbrev main_call4_v13 : Ref sig .tc := ⟨.hbm, 143, rfl⟩
abbrev main_call4_v14 : Ref sig .tc := ⟨.hbm, 144, rfl⟩
abbrev main_call4_cst : Ref sig .tc := ⟨.hbm, 145, rfl⟩
abbrev main_call4_v15 : Ref sig .tc := ⟨.hbm, 146, rfl⟩
abbrev main_v76 : Ref sig .tc := ⟨.hbm, 147, rfl⟩
abbrev main_v77 : Ref sig .tc := ⟨.hbm, 148, rfl⟩
abbrev main_v78 : Ref sig .tc := ⟨.hbm, 149, rfl⟩
abbrev main_call5_c : Ref sig .tc := ⟨.hbm, 150, rfl⟩
abbrev main_call5_v0 : Ref sig .tc := ⟨.hbm, 151, rfl⟩
abbrev main_call5_v1 : Ref sig .tc := ⟨.hbm, 152, rfl⟩
abbrev main_call5_c_0 : Ref sig .tc := ⟨.hbm, 153, rfl⟩
abbrev main_call5_v2 : Ref sig .tc := ⟨.hbm, 154, rfl⟩
abbrev main_call5_v3 : Ref sig .tc := ⟨.hbm, 155, rfl⟩
abbrev main_call5_v4 : Ref sig .tc := ⟨.hbm, 156, rfl⟩
abbrev main_call5_v5 : Ref sig .tc := ⟨.hbm, 157, rfl⟩
abbrev main_call5_c_1 : Ref sig .tc := ⟨.hbm, 158, rfl⟩
abbrev main_call5_c_2 : Ref sig .tc := ⟨.hbm, 159, rfl⟩
abbrev main_call5_v6 : Ref sig .tc := ⟨.hbm, 160, rfl⟩
abbrev main_call5_v7 : Ref sig .tc := ⟨.hbm, 161, rfl⟩
abbrev main_call5_v8 : Ref sig .tc := ⟨.hbm, 162, rfl⟩
abbrev main_call5_v9 : Ref sig .tc := ⟨.hbm, 163, rfl⟩
abbrev main_call5_v10 : Ref sig .tc := ⟨.hbm, 164, rfl⟩
abbrev main_call5_v11 : Ref sig .tc := ⟨.hbm, 165, rfl⟩
abbrev main_call5_c_3 : Ref sig .tc := ⟨.hbm, 166, rfl⟩
abbrev main_call5_v12 : Ref sig .tc := ⟨.hbm, 167, rfl⟩
abbrev main_call5_v13 : Ref sig .tc := ⟨.hbm, 168, rfl⟩
abbrev main_call5_v14 : Ref sig .tc := ⟨.hbm, 169, rfl⟩
abbrev main_call5_cst : Ref sig .tc := ⟨.hbm, 170, rfl⟩
abbrev main_call5_v15 : Ref sig .tc := ⟨.hbm, 171, rfl⟩
abbrev main_v79 : Ref sig .tc := ⟨.hbm, 172, rfl⟩
abbrev main_v80 : Ref sig .tc := ⟨.hbm, 173, rfl⟩
abbrev main_v81 : Ref sig .tc := ⟨.hbm, 174, rfl⟩
abbrev main_call6_v0 : Ref sig .tc := ⟨.hbm, 175, rfl⟩
abbrev main_call6_cst : Ref sig .tc := ⟨.hbm, 176, rfl⟩
abbrev main_call6_v1 : Ref sig .tc := ⟨.hbm, 177, rfl⟩
abbrev main_call6_v2 : Ref sig .tc := ⟨.hbm, 178, rfl⟩
abbrev main_v82 : Ref sig .tc := ⟨.hbm, 179, rfl⟩
abbrev main_cst_2 : Ref sig .tc := ⟨.hbm, 180, rfl⟩
abbrev main_v83 : Ref sig .tc := ⟨.hbm, 181, rfl⟩
abbrev main_v84 : Ref sig .tc := ⟨.hbm, 182, rfl⟩
abbrev main_v85 : Ref sig .tc := ⟨.hbm, 183, rfl⟩
abbrev main_v86 : Ref sig .tc := ⟨.hbm, 184, rfl⟩
abbrev main_v87 : Ref sig .tc := ⟨.hbm, 185, rfl⟩
abbrev main_v88 : Ref sig .tc := ⟨.hbm, 186, rfl⟩
abbrev main_v89 : Ref sig .tc := ⟨.hbm, 187, rfl⟩
abbrev main_v90 : Ref sig .tc := ⟨.hbm, 188, rfl⟩
abbrev main_v91 : Ref sig .tc := ⟨.hbm, 189, rfl⟩
abbrev main_v92 : Ref sig .tc := ⟨.hbm, 190, rfl⟩
abbrev main_v93 : Ref sig .tc := ⟨.hbm, 191, rfl⟩
abbrev main_v94 : Ref sig .tc := ⟨.hbm, 192, rfl⟩
abbrev main_v95 : Ref sig .tc := ⟨.hbm, 193, rfl⟩
abbrev main_v96 : Ref sig .tc := ⟨.hbm, 194, rfl⟩
abbrev main_v97 : Ref sig .tc := ⟨.hbm, 195, rfl⟩
abbrev main_v98 : Ref sig .tc := ⟨.hbm, 196, rfl⟩
abbrev main_v99 : Ref sig .tc := ⟨.hbm, 197, rfl⟩
abbrev main_v100 : Ref sig .tc := ⟨.hbm, 198, rfl⟩
abbrev main_v101 : Ref sig .tc := ⟨.hbm, 199, rfl⟩
abbrev main_cst_3 : Ref sig .tc := ⟨.hbm, 200, rfl⟩
abbrev main_v102 : Ref sig .tc := ⟨.hbm, 201, rfl⟩
abbrev main_v103 : Ref sig .tc := ⟨.hbm, 202, rfl⟩
abbrev main_v104 : Ref sig .tc := ⟨.hbm, 203, rfl⟩
abbrev main_cst_4 : Ref sig .tc := ⟨.hbm, 204, rfl⟩
abbrev main_v105 : Ref sig .tc := ⟨.hbm, 205, rfl⟩
abbrev main_v106 : Ref sig .tc := ⟨.hbm, 206, rfl⟩
abbrev main_cst_5 : Ref sig .tc := ⟨.hbm, 207, rfl⟩
abbrev main_call7_v0 : Ref sig .tc := ⟨.hbm, 208, rfl⟩
abbrev main_call7_v1 : Ref sig .tc := ⟨.hbm, 209, rfl⟩
abbrev main_v107 : Ref sig .tc := ⟨.hbm, 210, rfl⟩
abbrev main_v108 : Ref sig .tc := ⟨.hbm, 211, rfl⟩
abbrev main_v109 : Ref sig .tc := ⟨.hbm, 212, rfl⟩
abbrev main_v110 : Ref sig .tc := ⟨.hbm, 213, rfl⟩
abbrev main_cst_6 : Ref sig .tc := ⟨.hbm, 214, rfl⟩
abbrev main_v111 : Ref sig .tc := ⟨.hbm, 215, rfl⟩
abbrev main_v112 : Ref sig .tc := ⟨.hbm, 216, rfl⟩
abbrev main_v113 : Ref sig .tc := ⟨.hbm, 217, rfl⟩
abbrev main_v114 : Ref sig .tc := ⟨.hbm, 218, rfl⟩
abbrev main_v115 : Ref sig .tc := ⟨.hbm, 219, rfl⟩
abbrev main_v116 : Ref sig .tc := ⟨.hbm, 220, rfl⟩
abbrev main_v117 : Ref sig .tc := ⟨.hbm, 221, rfl⟩
abbrev main_v118 : Ref sig .tc := ⟨.hbm, 222, rfl⟩
abbrev main_v119 : Ref sig .tc := ⟨.hbm, 223, rfl⟩
abbrev main_v120 : Ref sig .tc := ⟨.hbm, 224, rfl⟩
abbrev main_v121 : Ref sig .tc := ⟨.hbm, 225, rfl⟩
abbrev main_v122 : Ref sig .tc := ⟨.hbm, 226, rfl⟩
abbrev main_call8_c : Ref sig .tc := ⟨.hbm, 227, rfl⟩
abbrev main_call8_v0 : Ref sig .tc := ⟨.hbm, 228, rfl⟩
abbrev main_call8_v1 : Ref sig .tc := ⟨.hbm, 229, rfl⟩
abbrev main_call8_c_0 : Ref sig .tc := ⟨.hbm, 230, rfl⟩
abbrev main_call8_v2 : Ref sig .tc := ⟨.hbm, 231, rfl⟩
abbrev main_call8_v3 : Ref sig .tc := ⟨.hbm, 232, rfl⟩
abbrev main_call8_v4 : Ref sig .tc := ⟨.hbm, 233, rfl⟩
abbrev main_call8_v5 : Ref sig .tc := ⟨.hbm, 234, rfl⟩
abbrev main_call8_c_1 : Ref sig .tc := ⟨.hbm, 235, rfl⟩
abbrev main_call8_c_2 : Ref sig .tc := ⟨.hbm, 236, rfl⟩
abbrev main_call8_v6 : Ref sig .tc := ⟨.hbm, 237, rfl⟩
abbrev main_call8_v7 : Ref sig .tc := ⟨.hbm, 238, rfl⟩
abbrev main_call8_v8 : Ref sig .tc := ⟨.hbm, 239, rfl⟩
abbrev main_call8_v9 : Ref sig .tc := ⟨.hbm, 240, rfl⟩
abbrev main_call8_v10 : Ref sig .tc := ⟨.hbm, 241, rfl⟩
abbrev main_call8_v11 : Ref sig .tc := ⟨.hbm, 242, rfl⟩
abbrev main_call8_c_3 : Ref sig .tc := ⟨.hbm, 243, rfl⟩
abbrev main_call8_v12 : Ref sig .tc := ⟨.hbm, 244, rfl⟩
abbrev main_call8_v13 : Ref sig .tc := ⟨.hbm, 245, rfl⟩
abbrev main_call8_v14 : Ref sig .tc := ⟨.hbm, 246, rfl⟩
abbrev main_call8_cst : Ref sig .tc := ⟨.hbm, 247, rfl⟩
abbrev main_call8_v15 : Ref sig .tc := ⟨.hbm, 248, rfl⟩
abbrev main_v123 : Ref sig .tc := ⟨.hbm, 249, rfl⟩
abbrev main_v124 : Ref sig .tc := ⟨.hbm, 250, rfl⟩
abbrev main_v125 : Ref sig .tc := ⟨.hbm, 251, rfl⟩
abbrev main_v126 : Ref sig .tc := ⟨.hbm, 252, rfl⟩
abbrev main_v127 : Ref sig .tc := ⟨.hbm, 253, rfl⟩
abbrev main_v128 : Ref sig .tc := ⟨.hbm, 254, rfl⟩
abbrev main_v129 : Ref sig .tc := ⟨.hbm, 255, rfl⟩
abbrev main_v130 : Ref sig .tc := ⟨.hbm, 256, rfl⟩
abbrev main_v131 : Ref sig .tc := ⟨.hbm, 257, rfl⟩
abbrev main_v132 : Ref sig .tc := ⟨.hbm, 258, rfl⟩
abbrev main_v133 : Ref sig .tc := ⟨.hbm, 259, rfl⟩

abbrev nD : Nat := 1
abbrev τ : Topo := Topo.v7x

variable {F : FTy → Type} [FloatOps F]
-- ==== Proof.KRun.lean ====
module

public import proofs.«01_k».proof.Proof.Gen.KernelIdeal.Frame

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The kernel's run: its result array ends at the last boundary's contents, its arguments as launched. -/
theorem run_result : θ_run defs (onTc (τ := τ) (main (F := F))) ⟨m, fun _ => 0, ρ⟩ (fun r => ∀ c : Dev nD,
      r.2.mem ((c.tc : Thread nD τ).loc main_v47) = W26 m ρ c (Proc.devRef .tc main_v47)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W26 m ρ c b)
    (hfin := fun c s' => by
      iintro ⟨⟨Hh, -⟩, HSI⟩
      unfold StableHlo.held
      imodintro
      iapply (pointsTo_read_all (Pipeline.ucRefs τ sig) (fun b => (((c : Thread nD τ)).1, b)) (W26 m ρ c) s')
      isplitl [Hh] <;> iassumption)
    (hQ := fun s h _ c =>
      ⟨h c _ (mem_uc main_v47 (by decide)),
       (h c _ (mem_uc main_arg0 (by decide))).trans (W26_main_arg0 m ρ c),
       (h c _ (mem_uc main_arg1 (by decide))).trans (W26_main_arg1 m ρ c),
       (h c _ (mem_uc main_arg2 (by decide))).trans (W26_main_arg2 m ρ c),
       (h c _ (mem_uc main_arg3 (by decide))).trans (W26_main_arg3 m ρ c),
       (h c _ (mem_uc main_arg4 (by decide))).trans (W26_main_arg4 m ρ c),
       (h c _ (mem_uc main_arg5 (by decide))).trans (W26_main_arg5 m ρ c)⟩)

end Cert.KernelIdeal.Hand

end
-- ==== Proof.Softmax.lean ====
module

public import Idealize.ShloMosaic.PureOps.Ideal
public import Idealize.ShloMosaic.PureOps.Ideal.Laws
public import Idealize.ShloMosaic.Lib.IdealHost

@[expose] public section

set_option maxRecDepth 16384

noncomputable section

namespace Cert.Math

open Idealize.ShloMosaic

/-- An extended real that is a real number. -/
def IsReal (x : EReal) : Prop := ∃ r : ℝ, x = (r : EReal)

theorem IsReal.zero : IsReal 0 := ⟨0, EReal.coe_zero.symm⟩

theorem IsReal.add {x y : EReal} (hx : IsReal x) (hy : IsReal y) : IsReal (x + y) := by
  obtain ⟨a, rfl⟩ := hx; obtain ⟨b, rfl⟩ := hy
  exact ⟨a + b, (EReal.coe_add a b).symm⟩

theorem IsReal.mul {x y : EReal} (hx : IsReal x) (hy : IsReal y) : IsReal (x * y) := by
  obtain ⟨a, rfl⟩ := hx; obtain ⟨b, rfl⟩ := hy
  exact ⟨a * b, (EReal.coe_mul a b).symm⟩

theorem IsReal.sum {ι : Type*} (s : Finset ι) {f : ι → EReal} (h : ∀ i ∈ s, IsReal (f i)) : IsReal (∑ i ∈ s, f i) := by
  classical
  induction s using Finset.induction_on with
  | empty => exact ⟨0, by simp⟩
  | insert a s ha ih =>
    rw [Finset.sum_insert ha]
    exact (h a (Finset.mem_insert_self a s)).add (ih fun i hi => h i (Finset.mem_insert_of_mem hi))

theorem coe_sum {ι : Type*} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

theorem div_pos_real (a b : ℝ) (hb : 0 < b) : Ideal.div (a : EReal) (b : EReal) = ((a / b : ℝ) : EReal) := by
  unfold Ideal.div
  rw [if_neg (by rw [EReal.coe_eq_zero]; exact hb.ne'), ← EReal.coe_inv, ← EReal.coe_mul, div_eq_mul_inv]

/-- The lower bound that the norms are kept above. -/
def floorNorm : EReal := Ideal.ofBits .f32 0x3851B717#32

theorem floorNorm_pos : ∃ r : ℝ, 0 < r ∧ floorNorm = (r : EReal) := by
  refine ⟨(2 ^ 23 + 5355287 : ℕ) * (2 : ℝ) ^ (-38 : ℤ), by positivity, ?_⟩
  unfold floorNorm
  simp [Ideal.ofBits, Ideal.ieee]

/-- The length of a key, kept above `floorNorm`. -/
def keyNorm (k : Fin 96 → EReal) : EReal := max (Ideal.sqrt (∑ c, k c * k c)) floorNorm

/-- The score of a query against a key scaled to unit length. -/
def score (q k : Fin 96 → EReal) : EReal := ∑ c, q c * Ideal.div (k c) (keyNorm k)

theorem score_isReal (q k : Fin 96 → EReal) (hq : ∀ c, IsReal (q c)) (hk : ∀ c, IsReal (k c)) : IsReal (score q k) := by
  choose a ha using hk
  have hs : (∑ c, k c * k c) = ((∑ c, a c * a c : ℝ) : EReal) := by
    rw [← coe_sum]; exact Finset.sum_congr rfl fun c _ => by rw [ha c, EReal.coe_mul]
  have hn : ∃ r : ℝ, 0 < r ∧ keyNorm k = (r : EReal) := by
    obtain ⟨f, hf, hfe⟩ := floorNorm_pos
    unfold keyNorm
    rw [hs, hfe, Ideal.sqrt_coe, if_neg (not_lt.mpr (Finset.sum_nonneg fun c _ => mul_self_nonneg (a c)))]
    exact ⟨max _ f, lt_max_of_lt_right hf, (EReal.coe_strictMono.monotone.map_max).symm⟩
  obtain ⟨r, hr, hre⟩ := hn
  unfold score
  refine IsReal.sum _ fun c _ => (hq c).mul ?_
  rw [ha c, hre, div_pos_real _ _ hr]
  exact ⟨_, rfl⟩

/-- The largest of a finite family, `⊥` if it is empty. -/
def top {n : ℕ} (x : Fin n → EReal) : EReal := (Finset.univ : Finset (Fin n)).fold max ⊥ x

/-- The softmax weight as the kernel forms it. -/
def weight {n : ℕ} (x : Fin n → EReal) (t : Fin n) : EReal :=
  Ideal.div (Ideal.exp (x t - top x)) (∑ u, Ideal.exp (x u - top x))

/-- The shift that the reference subtracts: the largest score, nought where that is not finite. -/
def shift {n : ℕ} (x : Fin n → EReal) : EReal :=
  Scalar.select (Ideal.cmp .olt (max (top x) (-(top x))) ⊤) (top x) 0

/-- The softmax weight as the reference forms it. -/
def weightR {n : ℕ} (x : Fin n → EReal) (t : Fin n) : EReal :=
  Ideal.exp (x t - (Ideal.log (∑ u, Ideal.exp (x u - shift x)) + shift x))

theorem top_isReal {n : ℕ} (hn : 0 < n) (x : Fin n → EReal) (h : ∀ t, IsReal (x t)) : IsReal (top x) := by
  choose a ha using h
  haveI : Nonempty (Fin n) := ⟨⟨0, hn⟩⟩
  obtain ⟨u, hu⟩ := Finite.exists_max a
  refine ⟨a u, le_antisymm ?_ ?_⟩
  · refine Finset.fold_max_le _ |>.mpr ⟨bot_le, fun t _ => ?_⟩
    rw [ha t]; exact EReal.coe_le_coe_iff.mpr (hu t)
  · exact Finset.le_fold_max _ |>.mpr (.inr ⟨u, Finset.mem_univ u, (ha u).ge⟩)

theorem weightR_eq {n : ℕ} (hn : 0 < n) (x : Fin n → EReal) (h : ∀ t, IsReal (x t)) (t : Fin n) : weightR x t = weight x t := by
  obtain ⟨M, hM⟩ := top_isReal hn x h
  choose a ha using h
  haveI : Nonempty (Fin n) := ⟨⟨0, hn⟩⟩
  have hs : shift x = (M : EReal) := by
    unfold shift
    rw [hM]
    have hlt : max (M : EReal) (-(M : EReal)) < ⊤ := by
      rw [← EReal.coe_neg, ← EReal.coe_strictMono.monotone.map_max]; exact EReal.coe_lt_top _
    simp [Ideal.cmp, Scalar.select, hlt]
  have he : ∀ u, Ideal.exp (x u - (M : EReal)) = ((Real.exp (a u - M) : ℝ) : EReal) := fun u => by
    rw [ha u, ← EReal.coe_sub, Ideal.exp_coe]
  have hpos : 0 < ∑ u, Real.exp (a u - M) := Finset.sum_pos (fun u _ => Real.exp_pos _) Finset.univ_nonempty
  unfold weightR weight
  rw [hs, hM]
  simp only [he]
  rw [coe_sum, Ideal.log_coe, if_neg (not_le.mpr hpos), div_pos_real _ _ hpos, ha t, ← EReal.coe_add, ← EReal.coe_sub,
    Ideal.exp_coe]
  congr 1
  rw [show a t - (Real.log (∑ u, Real.exp (a u - M)) + M) = (a t - M) - Real.log (∑ u, Real.exp (a u - M)) by ring,
    Real.exp_sub, Real.exp_log hpos]

end Cert.Math

end
-- ==== Proof.Attn.lean ====
module

public import proofs.«01_k».proof.Proof.Gen.KernelIdeal.Frame
public import proofs.«01_k».proof.Proof.Softmax
public import Idealize.ShloMosaic.Lib.Pointwise

@[expose] public section

set_option maxRecDepth 16384

noncomputable section

namespace Cert.KernelIdeal.Hand

open Idealize.ShloMosaic Idealize.ShloMosaic.Pointwise Cert.KernelIdeal.Gen Cert.Math

/-- Row `t` of three blocks of 64 rows laid one under another. -/
def pick3 (t : Fin 192) {α : Type} (a b c : Fin 64 → α) : α :=
  if h : (t : ℕ) < 64 then a ⟨t, h⟩ else if h' : (t : ℕ) - 64 < 64 then b ⟨t - 64, h'⟩ else c ⟨t - 64 - 64, by omega⟩

/-- The keys of a chunk over the lengths of the keys. -/
def unitKeys (k : FVec Ideal S192x96 .f32) : FVec Ideal S192x96 .f32 :=
  divf k (broadcastTo S192x96 (maximumf (sqrt (shapeCast S192x1 (multiReduction .add [1] S192 (mulf k k) 0x00000000#32 reduces_S192x96_S192 (.inl rfl) rfl) shapeCasts_S192_S192x1)) (broadcast S192x1 (Scalar.ofBits .f32 0x3851B717#32))) broadcasts_S192x1_S192x96)

theorem unitKeys_apply (k : FVec Ideal S192x96 .f32) (t : Fin 192) (l : Fin 96) :
    unitKeys k (ix2 t l) = Ideal.div (k (ix2 t l)) (keyNorm fun c => k (ix2 t c)) := by
  unfold keyNorm floorNorm
  pointwise [unitKeys]

/-- Exponentials of the scores less the largest of their row. -/
def expRows (s : FVec Ideal S64x192 .f32) : FVec Ideal S64x192 .f32 :=
  exp (subf s (broadcastTo S64x192 (shapeCast S64x1 (multiReduction .maximumf [1] S64 s 0xFF800000#32 reduces_S64x192_S64 (.inl rfl) rfl) shapeCasts_S64_S64x1) broadcasts_S64x1_S64x192))

theorem expRows_apply (s : FVec Ideal S64x192 .f32) (r : Fin 64) (t : Fin 192) :
    expRows s (ix2 r t) = Ideal.exp (s (ix2 r t) - top fun u => s (ix2 r u)) := by
  unfold top
  pointwise [expRows]
  rfl

/-- Rows over their sums. -/
def overSums (e : FVec Ideal S64x192 .f32) : FVec Ideal S64x192 .f32 :=
  divf e (broadcastTo S64x192 (shapeCast S64x1 (multiReduction .add [1] S64 e 0x00000000#32 reduces_S64x192_S64 (.inl rfl) rfl) shapeCasts_S64_S64x1) broadcasts_S64x1_S64x192)

theorem overSums_apply (e : FVec Ideal S64x192 .f32) (r : Fin 64) (t : Fin 192) :
    overSums e (ix2 r t) = Ideal.div (e (ix2 r t)) (∑ u, e (ix2 r u)) := by
  pointwise [overSums]

theorem scores_apply (q : FVec Ideal S64x96 .f32) (k : FVec Ideal S192x96 .f32) (r : Fin 64) (t : Fin 192) :
    matmul dot_S64x96_S192x96_S64x192_1_1_0_0_n_n none q k (constant S64x192 .f32 0x00000000#32) (ix2 r t) = ∑ c : Fin 96, q (ix2 r c) * k (ix2 t c) := by
  pointwise

theorem mix_apply (w : FVec Ideal S64x192 .f32) (y : FVec Ideal S192x384 .f32) (r : Fin 64) (d : Fin 384) :
    matmul dot_S64x192_S192x384_S64x384_1_0_0_1_n_n none w y (constant S64x384 .f32 0x00000000#32) (ix2 r d) = ∑ t : Fin 192, w (ix2 r t) * y (ix2 t d) := by
  pointwise

/-- Three chunks of keys. -/
def keys3 (q p n : Vec Ideal S1x64x96 .f32) : FVec Ideal S192x96 .f32 :=
  concatenate S192x96 0 [⟨S64x96, shapeCast S64x96 q shapeCasts_S1x64x96_S64x96⟩, ⟨S64x96, shapeCast S64x96 p shapeCasts_S1x64x96_S64x96⟩, ⟨S64x96, shapeCast S64x96 n shapeCasts_S1x64x96_S64x96⟩] concatenates_S64x96_S64x96_S64x96_S192x96_d0

theorem keys3_apply (q p n : Vec Ideal S1x64x96 .f32) (t : Fin 192) (l : Fin 96) :
    keys3 q p n (ix2 t l) = pick3 t (fun r => q (ix3 0 r l)) (fun r => p (ix3 0 r l)) (fun r => n (ix3 0 r l)) := by
  unfold pick3
  pointwise [keys3]

/-- Three chunks of values. -/
def vals3 (q p n : Vec Ideal S1x64x384 .f32) : FVec Ideal S192x384 .f32 :=
  concatenate S192x384 0 [⟨S64x384, shapeCast S64x384 q shapeCasts_S1x64x384_S64x384⟩, ⟨S64x384, shapeCast S64x384 p shapeCasts_S1x64x384_S64x384⟩, ⟨S64x384, shapeCast S64x384 n shapeCasts_S1x64x384_S64x384⟩] concatenates_S64x384_S64x384_S64x384_S192x384_d0

theorem vals3_apply (q p n : Vec Ideal S1x64x384 .f32) (t : Fin 192) (l : Fin 384) :
    vals3 q p n (ix2 t l) = pick3 t (fun r => q (ix3 0 r l)) (fun r => p (ix3 0 r l)) (fun r => n (ix3 0 r l)) := by
  unfold pick3
  pointwise [vals3]

/-- What one chunk of 64 queries computes from its own keys and values and those of the chunks before and after it. -/
def chunk (q p n : Vec Ideal S1x64x96 .f32) (yq yp yn : Vec Ideal S1x64x384 .f32) : FVec Ideal S1x64x384 .f32 :=
  shapeCast S1x64x384 (matmul dot_S64x192_S192x384_S64x384_1_0_0_1_n_n none
    (overSums (expRows (matmul dot_S64x96_S192x96_S64x192_1_1_0_0_n_n none (shapeCast S64x96 q shapeCasts_S1x64x96_S64x96 : FVec Ideal S64x96 .f32) (unitKeys (keys3 q p n)) (constant S64x192 .f32 0x00000000#32))))
    (vals3 yq yp yn) (constant S64x384 .f32 0x00000000#32)) shapeCasts_S64x384_S1x64x384

/-- Attention of one query over 192 keys. -/
def attn (q : Fin 96 → EReal) (k : Fin 192 → Fin 96 → EReal) (y : Fin 192 → EReal) : EReal :=
  ∑ t, weight (fun u => score q (k u)) t * y t

theorem chunk_apply (q p n : Vec Ideal S1x64x96 .f32) (yq yp yn : Vec Ideal S1x64x384 .f32) (r : Fin 64) (d : Fin 384) :
    chunk q p n yq yp yn (ix3 0 r d) = attn (fun c => q (ix3 0 r c))
      (fun t c => pick3 t (fun r => q (ix3 0 r c)) (fun r => p (ix3 0 r c)) (fun r => n (ix3 0 r c)))
      (fun t => pick3 t (fun r => yq (ix3 0 r d)) (fun r => yp (ix3 0 r d)) (fun r => yn (ix3 0 r d))) := by
  unfold chunk attn weight score
  rw [show ∀ v : FVec Ideal S64x384 .f32, shapeCast S1x64x384 v shapeCasts_S64x384_S1x64x384 (ix3 0 r d) = v (ix2 r d) from fun v => by pointwise]
  rw [mix_apply]
  simp only [overSums_apply, expRows_apply, scores_apply, unitKeys_apply, keys3_apply, vals3_apply]
  simp only [show ∀ (v : Vec Ideal S1x64x96 .f32) (r : Fin 64) (c : Fin 96), shapeCast S64x96 v shapeCasts_S1x64x96_S64x96 (ix2 r c) = v (ix3 0 r c) from fun v r c => by pointwise]

theorem piece7 (q p n : Vec Ideal S1x64x96 .f32) (yq yp yn : Vec Ideal S1x64x384 .f32) :
    k1_pay1 (k1_pay23 q p n) (k1_pay24 q p n) yp yn yq = chunk q p n yq yp yn := rfl
theorem piece6 (q p n : Vec Ideal S1x64x96 .f32) (yq yp yn : Vec Ideal S1x64x384 .f32) :
    k1_pay22 (k1_pay21 q p n) yp yn yq = chunk q p n yq yp yn := rfl
theorem piece5 (q p n : Vec Ideal S1x64x96 .f32) (yq yp yn : Vec Ideal S1x64x384 .f32) :
    k1_pay20 (k1_pay18 q p n) (k1_pay19 q p n) yp yn yq = chunk q p n yq yp yn := rfl
theorem piece4 (q p n : Vec Ideal S1x64x96 .f32) (yq yp yn : Vec Ideal S1x64x384 .f32) :
    k1_pay17 (k1_pay16 q p n) yp yn yq = chunk q p n yq yp yn := rfl
theorem piece3 (q p n : Vec Ideal S1x64x96 .f32) (yq yp yn : Vec Ideal S1x64x384 .f32) :
    k1_pay15 (k1_pay13 q p n) (k1_pay14 yp) yn yq = chunk q p n yq yp yn := rfl
theorem piece2 (q p n : Vec Ideal S1x64x96 .f32) (yq yp yn : Vec Ideal S1x64x384 .f32) :
    k1_pay12 (k1_pay9 q p n) (k1_pay10 yp) (k1_pay11 yn) yq = chunk q p n yq yp yn := rfl
theorem piece1 (q p n : Vec Ideal S1x64x96 .f32) (yq yp yn : Vec Ideal S1x64x384 .f32) :
    k1_pay8 (k1_pay4 q p n) (k1_pay5 yp) (k1_pay6 yn) (k1_pay7 yq) = chunk q p n yq yp yn := rfl
theorem piece0 (q p n : Vec Ideal S1x64x96 .f32) (yq yp yn : Vec Ideal S1x64x384 .f32) :
    k1_pay3 (k1_pay2 q p n yp yn yq) = chunk q p n yq yp yn := rfl

theorem out1_6_eq (x0 : Vec Ideal S1x512x96 .f32) (x1 x2 : Vec Ideal S1x64x96 .f32) (x3 : Vec Ideal S1x512x384 .f32) (x4 x5 : Vec Ideal S1x64x384 .f32) :
    out1_6 x0 x1 x2 x3 x4 x5 = View.canon [
      ⟨r1_17, chunk (View.ld x0 r1_16) (View.ld x0 r1_14) (View.ld x2 r1_1) (View.ld x3 r1_17) (View.ld x3 r1_15) (View.ld x5 r1_3)⟩,
      ⟨r1_15, chunk (View.ld x0 r1_14) (View.ld x0 r1_12) (View.ld x0 r1_16) (View.ld x3 r1_15) (View.ld x3 r1_13) (View.ld x3 r1_17)⟩,
      ⟨r1_13, chunk (View.ld x0 r1_12) (View.ld x0 r1_10) (View.ld x0 r1_14) (View.ld x3 r1_13) (View.ld x3 r1_11) (View.ld x3 r1_15)⟩,
      ⟨r1_11, chunk (View.ld x0 r1_10) (View.ld x0 r1_8) (View.ld x0 r1_12) (View.ld x3 r1_11) (View.ld x3 r1_9) (View.ld x3 r1_13)⟩,
      ⟨r1_9, chunk (View.ld x0 r1_8) (View.ld x0 r1_6) (View.ld x0 r1_10) (View.ld x3 r1_9) (View.ld x3 r1_7) (View.ld x3 r1_11)⟩,
      ⟨r1_7, chunk (View.ld x0 r1_6) (View.ld x0 r1_2) (View.ld x0 r1_8) (View.ld x3 r1_7) (View.ld x3 r1_4) (View.ld x3 r1_9)⟩,
      ⟨r1_4, chunk (View.ld x0 r1_2) (View.ld x0 r1_0) (View.ld x0 r1_6) (View.ld x3 r1_4) (View.ld x3 r1_5) (View.ld x3 r1_7)⟩,
      ⟨r1_5, chunk (View.ld x0 r1_0) (View.ld x1 r1_1) (View.ld x0 r1_2) (View.ld x3 r1_5) (View.ld x4 r1_3) (View.ld x3 r1_4)⟩] := by
  unfold out1_6
  rw [piece7, piece6, piece5, piece4, piece3, piece2, piece1, piece0]

end Cert.KernelIdeal.Hand

end
-- ==== Proof.AttnArr.lean ====
module

public import proofs.«01_k».proof.Proof.Attn
public import Idealize.ShloMosaic.Lib.Pipeline.ReadBack
public import Idealize.ShloMosaic.Lib.Pipeline.Value

@[expose] public section

set_option maxRecDepth 16384

noncomputable section

namespace Cert.KernelIdeal.Hand

open Idealize.ShloMosaic Idealize.ShloMosaic.TcCoe Idealize.ShloMosaic.Pointwise Cert.KernelIdeal.Gen Cert.Math
open Idealize.ShloMosaic.Pipeline (Dat)

/-- Attention of row `r` of hash `s`: over the rows of its chunk of 64, of the chunk before and of the chunk after, round about. -/
def attnRow (X : Fin 4 → ℕ → Fin 96 → EReal) (Y : Fin 4 → ℕ → Fin 384 → EReal) (s : Fin 4) (r : ℕ) (d : Fin 384) : EReal :=
  attn (X s r)
    (fun t c => pick3 t (fun u => X s (r / 64 * 64 + u) c) (fun u => X s ((r / 64 + 783) % 784 * 64 + u) c) (fun u => X s ((r / 64 + 1) % 784 * 64 + u) c))
    (fun t => pick3 t (fun u => Y s (r / 64 * 64 + u) d) (fun u => Y s ((r / 64 + 783) % 784 * 64 + u) d) (fun u => Y s ((r / 64 + 1) % 784 * 64 + u) d))

/-- A chunk whose operands are rows of two arrays computes the attention of its rows. -/
theorem chunk_row (X : Fin 4 → ℕ → Fin 96 → EReal) (Y : Fin 4 → ℕ → Fin 384 → EReal) (s : Fin 4) (k : ℕ)
    (q p n : Vec Ideal S1x64x96 .f32) (yq yp yn : Vec Ideal S1x64x384 .f32)
    (hq : ∀ (u : Fin 64) c, q (ix3 0 u c) = X s (k * 64 + u) c) (hp : ∀ (u : Fin 64) c, p (ix3 0 u c) = X s ((k + 783) % 784 * 64 + u) c)
    (hn : ∀ (u : Fin 64) c, n (ix3 0 u c) = X s ((k + 1) % 784 * 64 + u) c)
    (hyq : ∀ (u : Fin 64) c, yq (ix3 0 u c) = Y s (k * 64 + u) c) (hyp : ∀ (u : Fin 64) c, yp (ix3 0 u c) = Y s ((k + 783) % 784 * 64 + u) c)
    (hyn : ∀ (u : Fin 64) c, yn (ix3 0 u c) = Y s ((k + 1) % 784 * 64 + u) c) (r : Fin 64) (d : Fin 384) :
    chunk q p n yq yp yn (ix3 0 r d) = attnRow X Y s (k * 64 + r) d := by
  have hk : (k * 64 + (r : ℕ)) / 64 = k := by omega
  rw [chunk_apply]
  unfold attnRow
  rw [hk]
  simp only [hq, hp, hn, hyq, hyp, hyn]

theorem ld96 (x : Vec Ideal S1x512x96 .f32) (o : ℕ) (ho : o + 64 ≤ 512) (inb) (u : Fin 64) (c : Fin 96) :
    (View.ld x (Rect.unit (s := S1x512x96) ![0, o, 0] S1x64x96.size inb) : Vec Ideal S1x64x96 .f32) (ix3 0 u c) = x (ix3 0 ⟨o + u, by omega⟩ c) := by
  refine congrArg x (funext fun a => Fin.ext ?_)
  match a with
  | ⟨0, _⟩ => show 0 + 1 * 0 = 0; omega
  | ⟨1, _⟩ => show o + 1 * (u : ℕ) = o + u; omega
  | ⟨2, _⟩ => show 0 + 1 * (c : ℕ) = c; omega

theorem ld384 (x : Vec Ideal S1x512x384 .f32) (o : ℕ) (ho : o + 64 ≤ 512) (inb) (u : Fin 64) (c : Fin 384) :
    (View.ld x (Rect.unit (s := S1x512x384) ![0, o, 0] S1x64x384.size inb) : Vec Ideal S1x64x384 .f32) (ix3 0 u c) = x (ix3 0 ⟨o + u, by omega⟩ c) := by
  refine congrArg x (funext fun a => Fin.ext ?_)
  match a with
  | ⟨0, _⟩ => show 0 + 1 * 0 = 0; omega
  | ⟨1, _⟩ => show o + 1 * (u : ℕ) = o + u; omega
  | ⟨2, _⟩ => show 0 + 1 * (c : ℕ) = c; omega

/-- The attention of the rows of one block of 512. -/
def blockG (X : Fin 4 → ℕ → Fin 96 → EReal) (Y : Fin 4 → ℕ → Fin 384 → EReal) (s : Fin 4) (b : ℕ) : S1x512x384.Idx → EReal :=
  fun i => attnRow X Y s (b * 512 + (i 1 : ℕ)) (i 2)

/-- A chunk's rows within its block. -/
theorem chunk_block (X : Fin 4 → ℕ → Fin 96 → EReal) (Y : Fin 4 → ℕ → Fin 384 → EReal) (s : Fin 4) (b k o : ℕ) (hb : b * 512 + o = k * 64)
    (q p n : Vec Ideal S1x64x96 .f32) (yq yp yn : Vec Ideal S1x64x384 .f32)
    (hq : ∀ (u : Fin 64) c, q (ix3 0 u c) = X s (k * 64 + u) c) (hp : ∀ (u : Fin 64) c, p (ix3 0 u c) = X s ((k + 783) % 784 * 64 + u) c)
    (hn : ∀ (u : Fin 64) c, n (ix3 0 u c) = X s ((k + 1) % 784 * 64 + u) c)
    (hyq : ∀ (u : Fin 64) c, yq (ix3 0 u c) = Y s (k * 64 + u) c) (hyp : ∀ (u : Fin 64) c, yp (ix3 0 u c) = Y s ((k + 783) % 784 * 64 + u) c)
    (hyn : ∀ (u : Fin 64) c, yn (ix3 0 u c) = Y s ((k + 1) % 784 * 64 + u) c) (inb) (x : S1x64x384.Idx) :
    chunk q p n yq yp yn x = blockG X Y s b ((Rect.unit (s := S1x512x384) ![0, o, 0] S1x64x384.size inb).emb x) := by
  obtain ⟨z, r, d, rfl⟩ : ∃ (z : Fin 1) (r : Fin 64) (d : Fin 384), x = ix3 z r d := ⟨x 0, x 1, x 2, eq_ix3 x⟩
  obtain rfl : z = 0 := Subsingleton.elim _ _
  rw [chunk_row X Y s k q p n yq yp yn hq hp hn hyq hyp hyn]
  show _ = attnRow X Y s (b * 512 + (o + 1 * (r : ℕ))) ⟨0 + 1 * (d : ℕ), _⟩
  congr 1
  · omega
  · exact Fin.ext (by simp)

variable (X : Fin 4 → ℕ → Fin 96 → EReal) (Y : Fin 4 → ℕ → Fin 384 → EReal) (s : Fin 4) (b : ℕ) (hb : b < 98)
  (x0 : Vec Ideal S1x512x96 .f32) (x1 x2 : Vec Ideal S1x64x96 .f32) (x3 : Vec Ideal S1x512x384 .f32) (x4 x5 : Vec Ideal S1x64x384 .f32)
  (h0 : ∀ (u : Fin 512) c, x0 (ix3 0 u c) = X s (b * 512 + u) c) (h1 : ∀ (u : Fin 64) c, x1 (ix3 0 u c) = X s ((b * 8 + 783) % 784 * 64 + u) c)
  (h2 : ∀ (u : Fin 64) c, x2 (ix3 0 u c) = X s ((b * 8 + 8) % 784 * 64 + u) c)
  (h3 : ∀ (u : Fin 512) c, x3 (ix3 0 u c) = Y s (b * 512 + u) c) (h4 : ∀ (u : Fin 64) c, x4 (ix3 0 u c) = Y s ((b * 8 + 783) % 784 * 64 + u) c)
  (h5 : ∀ (u : Fin 64) c, x5 (ix3 0 u c) = Y s ((b * 8 + 8) % 784 * 64 + u) c)

include h0 in
theorem row96 (o k : ℕ) (ho : o + 64 ≤ 512) (hk : b * 512 + o = k * 64) (inb) (u : Fin 64) (c : Fin 96) :
    (View.ld x0 (Rect.unit (s := S1x512x96) ![0, o, 0] S1x64x96.size inb) : Vec Ideal S1x64x96 .f32) (ix3 0 u c) = X s (k * 64 + u) c := by
  rw [ld96 x0 o ho, h0, ← hk, ← Nat.add_assoc]

include h3 in
theorem row384 (o k : ℕ) (ho : o + 64 ≤ 512) (hk : b * 512 + o = k * 64) (inb) (u : Fin 64) (c : Fin 384) :
    (View.ld x3 (Rect.unit (s := S1x512x384) ![0, o, 0] S1x64x384.size inb) : Vec Ideal S1x64x384 .f32) (ix3 0 u c) = Y s (k * 64 + u) c := by
  rw [ld384 x3 o ho, h3, ← hk, ← Nat.add_assoc]

theorem hz3 : (![0, 0, 0] : Fin 3 → ℕ) = fun _ => 0 := by decide

include hb h0 h3 in
/-- A chunk inside its block. -/
theorem inner (o op on j : ℕ) (hj : o = 64 * j) (h1j : 1 ≤ j) (h6 : j ≤ 6) (hop : op + 64 = o) (hon : o + 64 = on) (i1 i2 i3 i4 i5 i6) (x : S1x64x384.Idx) :
    chunk (View.ld x0 (Rect.unit (s := S1x512x96) ![0, o, 0] S1x64x96.size i1)) (View.ld x0 (Rect.unit (s := S1x512x96) ![0, op, 0] S1x64x96.size i2)) (View.ld x0 (Rect.unit (s := S1x512x96) ![0, on, 0] S1x64x96.size i3))
      (View.ld x3 (Rect.unit (s := S1x512x384) ![0, o, 0] S1x64x384.size i4)) (View.ld x3 (Rect.unit (s := S1x512x384) ![0, op, 0] S1x64x384.size i5)) (View.ld x3 (Rect.unit (s := S1x512x384) ![0, on, 0] S1x64x384.size i6)) x
    = blockG X Y s b ((Rect.unit (s := S1x512x384) ![0, o, 0] S1x64x384.size i4).emb x) := by
  refine chunk_block X Y s b (b * 8 + j) o (by omega) _ _ _ _ _ _ ?_ ?_ ?_ ?_ ?_ ?_ i4 x <;> intro u c
  · exact row96 X s b x0 h0 o _ (by omega) (by omega) i1 u c
  · exact row96 X s b x0 h0 op _ (by omega) (by omega) i2 u c
  · exact row96 X s b x0 h0 on _ (by omega) (by omega) i3 u c
  · exact row384 Y s b x3 h3 o _ (by omega) (by omega) i4 u c
  · exact row384 Y s b x3 h3 op _ (by omega) (by omega) i5 u c
  · exact row384 Y s b x3 h3 on _ (by omega) (by omega) i6 u c

include hb h0 h1 h2 h3 h4 h5 in
/-- What a point of the grid leaves: the attention of the rows of its block. -/
theorem block_attn (i : S1x512x384.Idx) : out1_6 x0 x1 x2 x3 x4 x5 i = blockG X Y s b i := by
  rw [out1_6_eq]
  refine View.canon_append_of_piecesOf (Val := Elt Ideal) (e := .f32) (blockG X Y s b) [] _ ?_ i (cover1_6 _ _ _ _ _ _ _ _ i)
  refine ⟨fun x => ?_, inner X Y s b hb x0 x3 h0 h3 384 320 448 6 rfl (by omega) (by omega) rfl rfl _ _ _ _ _ _,
    inner X Y s b hb x0 x3 h0 h3 320 256 384 5 rfl (by omega) (by omega) rfl rfl _ _ _ _ _ _,
    inner X Y s b hb x0 x3 h0 h3 256 192 320 4 rfl (by omega) (by omega) rfl rfl _ _ _ _ _ _,
    inner X Y s b hb x0 x3 h0 h3 192 128 256 3 rfl (by omega) (by omega) rfl rfl _ _ _ _ _ _,
    inner X Y s b hb x0 x3 h0 h3 128 64 192 2 rfl (by omega) (by omega) rfl rfl _ _ _ _ _ _,
    inner X Y s b hb x0 x3 h0 h3 64 0 128 1 rfl (by omega) (by omega) rfl rfl _ _ _ _ _ _, fun x => ?_, trivial⟩
  · refine chunk_block X Y s b (b * 8 + 7) 448 (by omega) _ _ _ _ _ _ ?_ ?_ ?_ ?_ ?_ ?_ (by decide) x <;> intro u c
    · exact row96 X s b x0 h0 448 _ (by omega) (by omega) _ u c
    · exact row96 X s b x0 h0 384 _ (by omega) (by omega) _ u c
    · rw [View.ld_unit_zero hz3, h2]
    · exact row384 Y s b x3 h3 448 _ (by omega) (by omega) _ u c
    · exact row384 Y s b x3 h3 384 _ (by omega) (by omega) _ u c
    · rw [View.ld_unit_zero hz3, h5]
  · refine chunk_block X Y s b (b * 8) 0 (by omega) _ _ _ _ _ _ ?_ ?_ ?_ ?_ ?_ ?_ (by decide) x <;> intro u c
    · exact row96 X s b x0 h0 0 _ (by omega) (by omega) _ u c
    · rw [View.ld_unit_zero hz3, h1]
    · exact row96 X s b x0 h0 64 _ (by omega) (by omega) _ u c
    · exact row384 Y s b x3 h3 0 _ (by omega) (by omega) _ u c
    · rw [View.ld_unit_zero hz3, h4]
    · exact row384 Y s b x3 h3 64 _ (by omega) (by omega) _ u c

end Cert.KernelIdeal.Hand

end
-- ==== Proof.Conv.lean ====
module

public import proofs.«01_k».proof.Proof.Gen.KernelIdeal.Frame
public import Idealize.ShloMosaic.Lib.Pointwise
public import Idealize.ShloMosaic.Lib.Pipeline.Value

@[expose] public section

set_option maxRecDepth 16384

noncomputable section

namespace Cert.KernelIdeal.Hand

open Idealize.ShloMosaic Idealize.ShloMosaic.TcCoe Idealize.ShloMosaic.Pointwise Cert.KernelIdeal.Gen
open Idealize.ShloMosaic.Pipeline (Dat)

theorem mem_of_eq {α : Type} {S : Finset α} {a b : α} (h : a = b) (hb : b ∈ S) : a ∈ S := h ▸ hb

theorem hz2 : (![0, 0] : Fin 2 → Nat) = fun _ => 0 := funext fun a => by fin_cases a <;> rfl

/-- Where the nine taps of a 3x3 window start in rows of 226. -/
def off : Fin 9 → ℕ := ![0, 1, 2, 226, 227, 228, 452, 453, 454]

/-- Nine terms added in order from nought. -/
def sum9 (a : Fin 9 → EReal) : EReal := 0 + a 0 + a 1 + a 2 + a 3 + a 4 + a 5 + a 6 + a 7 + a 8

/-- Element `n` of row `c` of two blocks laid side by side. -/
def win (x0 x1 : Vec Ideal S384x1024 .f32) (c : Fin 384) (n : ℕ) : EReal :=
  if h : n < 1024 then x0 (ix2 c ⟨n, h⟩) else if h' : n - 1024 < 1024 then x1 (ix2 c ⟨n - 1024, h'⟩) else 0

theorem side_apply (x0 x1 : Vec Ideal S384x1024 .f32) (c : Fin 384) (n : Fin 2048) : k0_pay3 x0 x1 (ix2 c n) = win x0 x1 c n := by
  have := n.isLt
  unfold win
  pointwise [k0_pay3]
  split
  · rfl
  · rw [dif_pos (by omega)]

/-- The slice of the window that starts at `o`. -/
theorem slice_apply (x : FVec Ideal S384x2048 .f32) (o : ℕ) (ho : o ≤ 1024) (h : S384x2048.Slices ![0, o] S384x1024) (c : Fin 384) (p : Fin 1024) :
    extractStridedSlice S384x1024 ![0, o] x h (ix2 c p) = x (ix2 c ⟨p + o, by omega⟩) := by
  refine extractStridedSlice_apply _ x h _ _ fun a => ?_
  match a with
  | ⟨0, _⟩ => simp [ix2]
  | ⟨1, _⟩ => simp [ix2]; omega

theorem tap_apply (x : FVec Ideal S384x1024 .f32) (w : FVec Ideal S384x96 .f32) (p : Fin 1024) (l : Fin 96) :
    matmul dot_S384x1024_S384x96_S1024x96_0_0_1_1_n_n none x w (constant S1024x96 .f32 0x00000000#32) (ix2 p l) = ∑ c : Fin 384, x (ix2 c p) * w (ix2 c l) := by
  pointwise

theorem tapY_apply (x : FVec Ideal S384x1024 .f32) (w : FVec Ideal S384x384 .f32) (p : Fin 1024) (l : Fin 384) :
    matmul dot_S384x1024_S384x384_S1024x384_0_0_1_1_n_n none x w (constant S1024x384 .f32 0x00000000#32) (ix2 p l) = ∑ c : Fin 384, x (ix2 c p) * w (ix2 c l) := by
  pointwise

theorem plane_apply (w : Vec Ideal S1x384x96 .f32) (c : Fin 384) (l : Fin 96) :
    shapeCast S384x96 w shapeCasts_S1x384x96_S384x96 (ix2 c l) = w (ix3 0 c l) := by pointwise

theorem ldPlane (w : Vec Ideal S9x384x96 .f32) (j : ℕ) (hj : j < 9) (inb) (c : Fin 384) (l : Fin 96) :
    shapeCast S384x96 (View.ld w (Rect.unit (s := S9x384x96) ![j, 0, 0] S1x384x96.size inb) : Vec Ideal S1x384x96 .f32) shapeCasts_S1x384x96_S384x96 (ix2 c l) = w (ix3 ⟨j, hj⟩ c l) := by
  refine (plane_apply _ c l).trans (congrArg w (funext fun a => Fin.ext ?_))
  match a with
  | ⟨0, _⟩ => show j + 1 * 0 = j; omega
  | ⟨1, _⟩ => show 0 + 1 * (c : ℕ) = c; omega
  | ⟨2, _⟩ => show 0 + 1 * (l : ℕ) = l; omega

theorem plane0 (w : Vec Ideal S9x384x96 .f32) (c : Fin 384) (l : Fin 96) :
    shapeCast S384x96 (View.ld w r0_1) shapeCasts_S1x384x96_S384x96 (ix2 c l) = w (ix3 0 c l) := ldPlane w 0 (by omega) _ c l
theorem plane1 (w : Vec Ideal S9x384x96 .f32) (c : Fin 384) (l : Fin 96) :
    shapeCast S384x96 (View.ld w r0_2) shapeCasts_S1x384x96_S384x96 (ix2 c l) = w (ix3 1 c l) := ldPlane w 1 (by omega) _ c l
theorem plane2 (w : Vec Ideal S9x384x96 .f32) (c : Fin 384) (l : Fin 96) :
    shapeCast S384x96 (View.ld w r0_3) shapeCasts_S1x384x96_S384x96 (ix2 c l) = w (ix3 2 c l) := ldPlane w 2 (by omega) _ c l
theorem plane3 (w : Vec Ideal S9x384x96 .f32) (c : Fin 384) (l : Fin 96) :
    shapeCast S384x96 (View.ld w r0_4) shapeCasts_S1x384x96_S384x96 (ix2 c l) = w (ix3 3 c l) := ldPlane w 3 (by omega) _ c l
theorem plane4 (w : Vec Ideal S9x384x96 .f32) (c : Fin 384) (l : Fin 96) :
    shapeCast S384x96 (View.ld w r0_5) shapeCasts_S1x384x96_S384x96 (ix2 c l) = w (ix3 4 c l) := ldPlane w 4 (by omega) _ c l
theorem plane5 (w : Vec Ideal S9x384x96 .f32) (c : Fin 384) (l : Fin 96) :
    shapeCast S384x96 (View.ld w r0_6) shapeCasts_S1x384x96_S384x96 (ix2 c l) = w (ix3 5 c l) := ldPlane w 5 (by omega) _ c l
theorem plane6 (w : Vec Ideal S9x384x96 .f32) (c : Fin 384) (l : Fin 96) :
    shapeCast S384x96 (View.ld w r0_7) shapeCasts_S1x384x96_S384x96 (ix2 c l) = w (ix3 6 c l) := ldPlane w 6 (by omega) _ c l
theorem plane7 (w : Vec Ideal S9x384x96 .f32) (c : Fin 384) (l : Fin 96) :
    shapeCast S384x96 (View.ld w r0_8) shapeCasts_S1x384x96_S384x96 (ix2 c l) = w (ix3 7 c l) := ldPlane w 7 (by omega) _ c l
theorem plane8 (w : Vec Ideal S9x384x96 .f32) (c : Fin 384) (l : Fin 96) :
    shapeCast S384x96 (View.ld w r0_9) shapeCasts_S1x384x96_S384x96 (ix2 c l) = w (ix3 8 c l) := ldPlane w 8 (by omega) _ c l

theorem zero_apply (p : Fin 1024) (l : Fin 96) : broadcast S1024x96 (Scalar.ofBits (F := Ideal) .f32 0x00000000#32) (ix2 p l) = (0 : EReal) := by pointwise

/-- What a point computes of the 3x3 convolution. -/
theorem blockX (x0 x1 : Vec Ideal S384x1024 .f32) (w : Vec Ideal S9x384x96 .f32) (y : Vec Ideal S384x384 .f32) (p : Fin 1024) (l : Fin 96) :
    out0_4 x0 x1 w y (ix2 p l) = sum9 fun j => ∑ c : Fin 384, win x0 x1 c (p + off j) * w (ix3 j c l) := by
  unfold out0_4 k0_pay6
  rw [View.canon_unit_zero hz2, View.ld_unit_zero hz2, View.ld_unit_zero hz2]
  unfold k0_pay1 k0_pay4 k0_pay5 sum9
  simp only [addf_apply, Ideal.addf_def, tap_apply, slice_apply _ _ (show (0:ℕ) ≤ 1024 by omega), slice_apply _ _ (show (1:ℕ) ≤ 1024 by omega), slice_apply _ _ (show (2:ℕ) ≤ 1024 by omega),
    slice_apply _ _ (show (226:ℕ) ≤ 1024 by omega), slice_apply _ _ (show (227:ℕ) ≤ 1024 by omega), slice_apply _ _ (show (228:ℕ) ≤ 1024 by omega),
    slice_apply _ _ (show (452:ℕ) ≤ 1024 by omega), slice_apply _ _ (show (453:ℕ) ≤ 1024 by omega), slice_apply _ _ (show (454:ℕ) ≤ 1024 by omega),
    side_apply, zero_apply]
  simp only [show off 0 = 0 from rfl, show off 1 = 1 from rfl, show off 2 = 2 from rfl, show off 3 = 226 from rfl, show off 4 = 227 from rfl,
    show off 5 = 228 from rfl, show off 6 = 452 from rfl, show off 7 = 453 from rfl, show off 8 = 454 from rfl]
  refine congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) rfl ?_) ?_) ?_) ?_) ?_) ?_) ?_) ?_) ?_ <;>
    refine Finset.sum_congr rfl fun x _ => congrArg _ ?_
  · exact plane0 w x l
  · exact plane1 w x l
  · exact plane2 w x l
  · exact plane3 w x l
  · exact plane4 w x l
  · exact plane5 w x l
  · exact plane6 w x l
  · exact plane7 w x l
  · exact plane8 w x l

/-- What a point computes of the pointwise convolution. -/
theorem blockY (x0 x1 : Vec Ideal S384x1024 .f32) (w : Vec Ideal S9x384x96 .f32) (y : Vec Ideal S384x384 .f32) (p : Fin 1024) (l : Fin 384) :
    out0_5 x0 x1 w y (ix2 p l) = ∑ c : Fin 384, win x0 x1 c (p + 227) * y (ix2 c l) := by
  unfold out0_5 k0_pay6
  rw [View.canon_unit_zero hz2, View.ld_unit_zero hz2, View.ld_unit_zero hz2, View.ld_unit_zero hz2]
  unfold k0_pay2
  simp only [tapY_apply, slice_apply _ _ (show (227:ℕ) ≤ 1024 by omega), side_apply, shapeCast_self]

variable (V : (c : Dev nD) → (b : Ref sig .tc) → Buf (Elt Ideal) ((c : Thread nD τ).loc b))

theorem idx0_0 : ∀ t : Fin grid0.N, win0_0.index t 0 = 0 ∧ win0_0.index t 1 = t.val := by decide +kernel
theorem idx0_1 : ∀ t : Fin grid0.N, win0_1.index t 0 = 0 ∧ win0_1.index t 1 = t.val := by decide +kernel
theorem idx0_2 : ∀ t : Fin grid0.N, win0_2.index t 0 = 0 ∧ win0_2.index t 1 = 0 ∧ win0_2.index t 2 = 0 := by decide +kernel
theorem idx0_3 : ∀ t : Fin grid0.N, win0_3.index t 0 = 0 ∧ win0_3.index t 1 = 0 := by decide +kernel
theorem idx0_4 : ∀ t : Fin grid0.N, win0_4.index t 0 = t.val ∧ win0_4.index t 1 = 0 := by decide +kernel
theorem idx0_5 : ∀ t : Fin grid0.N, win0_5.index t 0 = t.val ∧ win0_5.index t 1 = 0 := by decide +kernel

theorem lt50 (t : Fin grid0.N) : t.val < 50 := t.isLt

theorem blk0_0 (c : Dev nD) (t : Fin cfg0.N) (i : Fin 384) (p : Fin 1024) :
    iblk0 V c 0 t (ix2 i p) = V c main_v12 (ix2 i ⟨t.val * 1024 + p, by have := lt50 t; omega⟩) := by
  show V c main_v12 ((win0_0.rect t).emb (ix2 i p)) = _
  refine congrArg _ (funext fun a => Fin.ext ?_)
  match a with
  | ⟨0, _⟩ => rw [Pipeline.Window.rect_emb_val win0_0 t (ix2 i p) _ rfl]; show win0_0.index t 0 * _ + _ = _; rw [(idx0_0 t).1]; simp [ix2]
  | ⟨1, _⟩ => rw [Pipeline.Window.rect_emb_val win0_0 t (ix2 i p) _ rfl]; show win0_0.index t 1 * _ + _ = _; rw [(idx0_0 t).2]; rfl

theorem blk0_1 (c : Dev nD) (t : Fin cfg0.N) (i : Fin 384) (p : Fin 1024) :
    iblk0 V c 1 t (ix2 i p) = V c main_v13 (ix2 i ⟨t.val * 1024 + p, by have := lt50 t; omega⟩) := by
  show V c main_v13 ((win0_1.rect t).emb (ix2 i p)) = _
  refine congrArg _ (funext fun a => Fin.ext ?_)
  match a with
  | ⟨0, _⟩ => rw [Pipeline.Window.rect_emb_val win0_1 t (ix2 i p) _ rfl]; show win0_1.index t 0 * _ + _ = _; rw [(idx0_1 t).1]; simp [ix2]
  | ⟨1, _⟩ => rw [Pipeline.Window.rect_emb_val win0_1 t (ix2 i p) _ rfl]; show win0_1.index t 1 * _ + _ = _; rw [(idx0_1 t).2]; rfl

theorem blk0_2 (c : Dev nD) (t : Fin cfg0.N) : iblk0 V c 2 t = V c main_v2 := by
  funext y
  show V c main_v2 ((win0_2.rect t).emb y) = _
  refine congrArg _ (funext fun a => Fin.ext ?_)
  match a with
  | ⟨0, _⟩ => exact Pipeline.Window.rect_emb_val_of_index_zero _ t _ (idx0_2 t).1 y
  | ⟨1, _⟩ => exact Pipeline.Window.rect_emb_val_of_index_zero _ t _ (idx0_2 t).2.1 y
  | ⟨2, _⟩ => exact Pipeline.Window.rect_emb_val_of_index_zero _ t _ (idx0_2 t).2.2 y

theorem blk0_3 (c : Dev nD) (t : Fin cfg0.N) : iblk0 V c 3 t = V c main_v4 := by
  funext y
  show V c main_v4 ((win0_3.rect t).emb y) = _
  refine congrArg _ (funext fun a => Fin.ext ?_)
  match a with
  | ⟨0, _⟩ => exact Pipeline.Window.rect_emb_val_of_index_zero _ t _ (idx0_3 t).1 y
  | ⟨1, _⟩ => exact Pipeline.Window.rect_emb_val_of_index_zero _ t _ (idx0_3 t).2 y

/-- The 3x3 convolution at a position of the row-major padded image. -/
def convX (flat : Fin 384 → ℕ → EReal) (w : FVec Ideal S9x384x96 .f32) (p : ℕ) (l : Fin 96) : EReal :=
  sum9 fun j => ∑ c : Fin 384, flat c (p + off j) * w (ix3 j c l)

/-- The pointwise convolution at a position of the row-major padded image. -/
def convY (flat : Fin 384 → ℕ → EReal) (w : FVec Ideal S384x384 .f32) (p : ℕ) (l : Fin 384) : EReal :=
  ∑ c : Fin 384, flat c (p + 227) * w (ix2 c l)

theorem win_flat (flat : Fin 384 → ℕ → EReal) (c : Dev nD) (h12 : ∀ i p, V c main_v12 (ix2 i p) = flat i p) (h13 : ∀ i p, V c main_v13 (ix2 i p) = flat i (p + 1024))
    (t : Fin cfg0.N) (i : Fin 384) (n : ℕ) (hn : n < 2048) : win (iblk0 V c 0 t) (iblk0 V c 1 t) i n = flat i (t.val * 1024 + n) := by
  unfold win
  split
  · rw [blk0_0, h12]
  · rw [dif_pos (by omega), blk0_1, h13]
    congr 1; simp only []; omega

theorem off_le : ∀ j, off j ≤ 454 := by decide

theorem rows0_4 (c : Dev nD) (t : Fin cfg0.N) (p : Fin 1024) (l : Fin 96) :
    (win0_4.rect t).emb (ix2 p l) = (ix2 ⟨t.val * 1024 + p, by have := lt50 t; omega⟩ l : S51200x96.Idx) := by
  refine funext fun a => Fin.ext ?_
  match a with
  | ⟨0, _⟩ => rw [Pipeline.Window.rect_emb_val win0_4 t (ix2 p l) _ rfl]; show win0_4.index t 0 * _ + _ = _; rw [(idx0_4 t).1]; rfl
  | ⟨1, _⟩ => rw [Pipeline.Window.rect_emb_val win0_4 t (ix2 p l) _ rfl]; show win0_4.index t 1 * _ + _ = _; rw [(idx0_4 t).2]; simp [ix2]

theorem rows0_5 (c : Dev nD) (t : Fin cfg0.N) (p : Fin 1024) (l : Fin 384) :
    (win0_5.rect t).emb (ix2 p l) = (ix2 ⟨t.val * 1024 + p, by have := lt50 t; omega⟩ l : S51200x384.Idx) := by
  refine funext fun a => Fin.ext ?_
  match a with
  | ⟨0, _⟩ => rw [Pipeline.Window.rect_emb_val win0_5 t (ix2 p l) _ rfl]; show win0_5.index t 0 * _ + _ = _; rw [(idx0_5 t).1]; rfl
  | ⟨1, _⟩ => rw [Pipeline.Window.rect_emb_val win0_5 t (ix2 p l) _ rfl]; show win0_5.index t 1 * _ + _ = _; rw [(idx0_5 t).2]; simp [ix2]

theorem flushX (flat : Fin 384 → ℕ → EReal) (c : Dev nD) (h12 : ∀ i p, V c main_v12 (ix2 i p) = flat i p) (h13 : ∀ i p, V c main_v13 (ix2 i p) = flat i (p + 1024))
    (t : Fin cfg0.N) (y : S1024x96.Idx) :
    out0_4 (iblk0 V c 0 t) (iblk0 V c 1 t) (iblk0 V c 2 t) (iblk0 V c 3 t) y = (fun i => convX flat (V c main_v2) (i 0) (i 1) : S51200x96.Idx → EReal) ((win0_4.rect t).emb y) := by
  obtain ⟨p, l, rfl⟩ : ∃ (p : Fin 1024) (l : Fin 96), y = ix2 p l := ⟨y 0, y 1, eq_ix2 y⟩
  rw [blockX, rows0_4 c, blk0_2]
  unfold convX
  congr 1; funext j
  refine Finset.sum_congr rfl fun i _ => ?_
  have := off_le j
  rw [win_flat V flat c h12 h13 t i _ (by omega)]
  simp only [ix2_0, ix2_1, Nat.add_assoc]

theorem arrX (flat : Fin 384 → ℕ → EReal) (c : Dev nD) (h12 : ∀ i p, V c main_v12 (ix2 i p) = flat i p) (h13 : ∀ i p, V c main_v13 (ix2 i p) = flat i (p + 1024)) :
    (dat0 V c).arrAt 4 cfg0.N = (fun i => convX flat (V c main_v2) (i 0) (i 1) : S51200x96.Idx → EReal) := by
  refine (dat0 V c).arrAt_eq_of_cover 4 _ (fun t _ => ?_) fun i => ?_
  · show (cfg0.win 4).cut (grid0.coords t) ((dat0 V c).after 4 t) = _
    rw [after0_4]
    exact funext (flushX V flat c h12 h13 t)
  · have h0 : (i 0 : Nat) < 51200 := (i 0).isLt
    have h1 : (i 1 : Nat) < 96 := (i 1).isLt
    have ht : (i 0 : Nat) / 1024 < cfg0.N := by show _ < 50; omega
    refine ⟨⟨(i 0 : Nat) / 1024, ht⟩, flush0_4 _, ?_⟩
    show i ∈ ((View.whole main_v14_0).slice (win0_4.rect ⟨(i 0 : Nat) / 1024, ht⟩)).set
    rw [View.set_slice_whole, Rect.mem_set_unit]
    intro a
    match a with
    | ⟨0, _⟩ =>
      show win0_4.index _ 0 * 1024 ≤ (i 0 : Nat) ∧ (i 0 : Nat) < win0_4.index _ 0 * 1024 + 1024
      rw [(idx0_4 _).1]; dsimp only; omega
    | ⟨1, _⟩ =>
      show win0_4.index _ 1 * 96 ≤ (i 1 : Nat) ∧ (i 1 : Nat) < win0_4.index _ 1 * 96 + 96
      rw [(idx0_4 _).2]; omega

theorem flushY (flat : Fin 384 → ℕ → EReal) (c : Dev nD) (h12 : ∀ i p, V c main_v12 (ix2 i p) = flat i p) (h13 : ∀ i p, V c main_v13 (ix2 i p) = flat i (p + 1024))
    (t : Fin cfg0.N) (y : S1024x384.Idx) :
    out0_5 (iblk0 V c 0 t) (iblk0 V c 1 t) (iblk0 V c 2 t) (iblk0 V c 3 t) y = (fun i => convY flat (V c main_v4) (i 0) (i 1) : S51200x384.Idx → EReal) ((win0_5.rect t).emb y) := by
  obtain ⟨p, l, rfl⟩ : ∃ (p : Fin 1024) (l : Fin 384), y = ix2 p l := ⟨y 0, y 1, eq_ix2 y⟩
  rw [blockY, rows0_5 c, blk0_3]
  unfold convY

  refine Finset.sum_congr rfl fun i _ => ?_

  rw [win_flat V flat c h12 h13 t i _ (by omega)]
  simp only [ix2_0, ix2_1, Nat.add_assoc]

theorem arrY (flat : Fin 384 → ℕ → EReal) (c : Dev nD) (h12 : ∀ i p, V c main_v12 (ix2 i p) = flat i p) (h13 : ∀ i p, V c main_v13 (ix2 i p) = flat i (p + 1024)) :
    (dat0 V c).arrAt 5 cfg0.N = (fun i => convY flat (V c main_v4) (i 0) (i 1) : S51200x384.Idx → EReal) := by
  refine (dat0 V c).arrAt_eq_of_cover 5 _ (fun t _ => ?_) fun i => ?_
  · show (cfg0.win 5).cut (grid0.coords t) ((dat0 V c).after 5 t) = _
    rw [after0_5]
    exact funext (flushY V flat c h12 h13 t)
  · have h0 : (i 0 : Nat) < 51200 := (i 0).isLt
    have h1 : (i 1 : Nat) < 384 := (i 1).isLt
    have ht : (i 0 : Nat) / 1024 < cfg0.N := by show _ < 50; omega
    refine ⟨⟨(i 0 : Nat) / 1024, ht⟩, flush0_5 _, ?_⟩
    show i ∈ ((View.whole main_v14_1).slice (win0_5.rect ⟨(i 0 : Nat) / 1024, ht⟩)).set
    rw [View.set_slice_whole, Rect.mem_set_unit]
    intro a
    match a with
    | ⟨0, _⟩ =>
      show win0_5.index _ 0 * 1024 ≤ (i 0 : Nat) ∧ (i 0 : Nat) < win0_5.index _ 0 * 1024 + 1024
      rw [(idx0_5 _).1]; dsimp only; omega
    | ⟨1, _⟩ =>
      show win0_5.index _ 1 * 384 ≤ (i 1 : Nat) ∧ (i 1 : Nat) < win0_5.index _ 1 * 384 + 384
      rw [(idx0_5 _).2]; omega

end Cert.KernelIdeal.Hand

end
-- ==== Proof.Words.lean ====
module

public import Idealize.ShloMosaic.Lib.Pointwise
public import Idealize.ShloMosaic.Lib.SortFacts
public import Idealize.ShloMosaic.Lib.ReduceAll
public import Idealize.ShloMosaic.Lib.Routing.Ops
public import Idealize.ShloMosaic.Lib.Routing.OpsPair
public import Idealize.ShloMosaic.Lib.Routing.Words
public import Idealize.ShloMosaic.Lib.StableHlo.Predicate

@[expose] public section

set_option maxRecDepth 16384

noncomputable section

namespace Cert.Math

open Idealize.ShloMosaic Idealize.ShloMosaic.Pointwise

/-- The position that a stable sort of signed words puts at each place. -/
def ordOf {n : ℕ} (key : Fin n → BitVec 32) : Fin n → Fin n :=
  sortedFrom fun k k' => IntOp.cmpi .slt (key k) (key k') == 1#1

/-- An argsort of a vector: the words of the positions in order. -/
theorem argsort_vec {n : ℕ} (x : IVec (⟨1, ![n]⟩ : Shape) 32) (p : Fin n) :
    (Host.sort2 (⟨1, ![n]⟩ : Shape) 0 (fun l r : BitVec 32 × BitVec 32 => IntOp.cmpi .slt l.1 r.1) x (iotaInDim (⟨1, ![n]⟩ : Shape) 32 0)).2 (ix1 p)
      = BitVec.ofNat 32 (ordOf (fun k => x (ix1 k)) p) := by
  have hal : ∀ k : Fin n, (ix1 p : (⟨1, ![n]⟩ : Shape).Idx).along 0 k = ix1 k := fun k => by
    funext a
    match a with
    | ⟨0, _⟩ => rfl
  show BitVec.ofNat 32 (((ix1 p : (⟨1, ![n]⟩ : Shape).Idx).along 0 (sortedFrom (n := n) (fun k k' => IntOp.cmpi .slt (x ((ix1 p : (⟨1, ![n]⟩ : Shape).Idx).along 0 k)) (x ((ix1 p : (⟨1, ![n]⟩ : Shape).Idx).along 0 k')) == 1#1) p)) 0).val = _
  simp only [hal]
  rfl

/-- An argsort of a one-row matrix along its row. -/
theorem argsort_row {n : ℕ} (x : IVec (⟨2, ![1, n]⟩ : Shape) 32) (p : Fin n) :
    (Host.sort2 (⟨2, ![1, n]⟩ : Shape) 1 (fun l r : BitVec 32 × BitVec 32 => IntOp.cmpi .slt l.1 r.1) x (iotaInDim (⟨2, ![1, n]⟩ : Shape) 32 1)).2 (ix2 0 p)
      = BitVec.ofNat 32 (ordOf (fun k => x (ix2 0 k)) p) := by
  have hal : ∀ k : Fin n, (ix2 0 p : (⟨2, ![1, n]⟩ : Shape).Idx).along 1 k = ix2 0 k := fun k => by
    funext a
    match a with
    | ⟨0, _⟩ => rfl
    | ⟨1, _⟩ => rfl
  show BitVec.ofNat 32 (((ix2 0 p : (⟨2, ![1, n]⟩ : Shape).Idx).along 1 (sortedFrom (n := n) (fun k k' => IntOp.cmpi .slt (x ((ix2 0 p : (⟨2, ![1, n]⟩ : Shape).Idx).along 1 k)) (x ((ix2 0 p : (⟨2, ![1, n]⟩ : Shape).Idx).along 1 k')) == 1#1) p)) 1).val = _
  simp only [hal]
  rfl

/-- Wrapping negative indices changes nothing where none is negative. -/
theorem wrap_vec {s : Shape} (i a z : IVec s 32) (hz : ∀ j, z j = 0#32) (hi : ∀ j, (i j).toNat < 2 ^ 31) :
    select (cmpi .slt i z) a i = i := by
  funext j
  show Scalar.select (IntOp.cmpi .slt (i j) (z j)) (a j) (i j) = i j
  rw [hz j]
  exact Routing.wrap_of_lt (w := 32) _ _ (hi j)

theorem sge_zero (v : BitVec 32) (hv : v.toNat < 2 ^ 31) : IntOp.cmpi .sge v 0#32 = 1#1 := by
  have : (0#32 : BitVec 32).sle v = true := by
    rw [BitVec.sle_eq_decide, decide_eq_true_eq, BitVec.toInt_eq_toNat_of_lt (x := v) (by omega)]
    simp
  unfold IntOp.cmpi
  simp [this]

theorem sle_last (v : BitVec 32) (N : ℕ) (hN : N ≤ 2 ^ 31) (hv : v.toNat < N) : IntOp.cmpi .sle v (BitVec.ofNat 32 (N - 1)) = 1#1 := by
  have e : (BitVec.ofNat 32 (N - 1)).toNat = N - 1 := by rw [BitVec.toNat_ofNat]; exact Nat.mod_eq_of_lt (by omega)
  have : v.sle (BitVec.ofNat 32 (N - 1)) = true := by
    rw [BitVec.sle_eq_decide, decide_eq_true_eq, BitVec.toInt_eq_toNat_of_lt (x := v) (by omega), BitVec.toInt_eq_toNat_of_lt (x := BitVec.ofNat 32 (N - 1)) (by omega), e]
    omega
  unfold IntOp.cmpi
  simp [this]

/-- A gather whose every index is in range is not filled anywhere. -/
theorem take_fill {α : Type} {s sr t u : Shape} {axes : List (Fin s.rank)} (v lo hi : IVec s 32) (one : u.Idx → BitVec 1) (hred : s.ReducesTo axes sr)
    (hu : 0 < u.numel) {dims : Fin sr.rank → Fin t.rank} (hb : sr.BroadcastsInDim t dims) (g nan : t.Idx → α) (N : ℕ) (hN : N ≤ 2 ^ 31)
    (hlo : ∀ j, lo j = 0#32) (hhi : ∀ j, hi j = BitVec.ofNat 32 (N - 1)) (hone : ∀ j, one j = 1#1) (hv : ∀ j, (v j).toNat < N) :
    select (broadcastInDim t dims hb (Host.reduce IntOp.andi (andi (cmpi .sge v lo) (cmpi .sle v hi)) one hred hu)) g nan = g := by
  have hr : ∀ k, Host.reduce IntOp.andi (andi (cmpi .sge v lo) (cmpi .sle v hi)) one hred hu k = 1#1 := fun k => by
    refine Host.reduce_andi_one _ _ hred hu k (hone _) fun j => ?_
    show IntOp.andi (IntOp.cmpi .sge (v j) (lo j)) (IntOp.cmpi .sle (v j) (hi j)) = 1#1
    rw [hlo, hhi, sge_zero _ (by have := hv j; omega), sle_last _ N hN (hv j)]
    rfl
  funext j
  show Scalar.select (Host.reduce IntOp.andi (andi (cmpi .sge v lo) (cmpi .sle v hi)) one hred hu _) (g j) (nan j) = g j
  rw [hr]
  rfl

theorem eq_ix3_unit {a b : ℕ} (j : (⟨3, ![a, b, 1]⟩ : Shape).Idx) : j = ix3 (j 0) (j 1) 0 := by
  funext c
  match c with
  | ⟨0, _⟩ => rfl
  | ⟨1, _⟩ => rfl
  | ⟨2, _⟩ => exact Subsingleton.elim (α := Fin 1) _ _

/-- A gather along the middle axis, one index to every element: it reads the element in its column. -/
theorem gather_col {α : Type} {R C n : ℕ} (wf) (x : (⟨3, ![1, R, C]⟩ : Shape).Idx → α) (idx : IVec (⟨3, ![n, C, 1]⟩ : Shape) 32)
    (p : Fin n) (y : Fin C) (b : Fin R) (hR : R < 2 ^ 31) (hb : idx (ix3 p y 0) = BitVec.ofNat 32 b.val) :
    Host.gather (⟨[0], [1], [2], [1], [1], 2, ![1, 1, 1], wf⟩ : GatherDims ⟨3, ![1, R, C]⟩ ⟨3, ![n, C, 1]⟩ ⟨3, ![1, n, C]⟩) x idx (ix3 0 p y) = x (ix3 0 b y) := by
  unfold Host.gather
  refine congrArg x (funext fun a => Fin.ext ?_)
  match a with
  | ⟨0, h⟩ =>
    have := ((⟨[0], [1], [2], [1], [1], 2, ![1, 1, 1], wf⟩ : GatherDims ⟨3, ![1, R, C]⟩ ⟨3, ![n, C, 1]⟩ ⟨3, ![1, n, C]⟩).operandIdx (ix3 0 p y) idx ⟨0, h⟩).isLt
    have h1 : (⟨3, ![1, R, C]⟩ : Shape).size ⟨0, h⟩ = 1 := rfl
    show _ = 0
    omega
  | ⟨1, _⟩ =>
    have key : ∀ q : (⟨3, ![n, C, 1]⟩ : Shape).Idx, q = ix3 p y 0 → min (idx q).toInt.toNat (R - 1) + 0 + 0 = b.val := by
      rintro q rfl
      have hbl := b.isLt
      rw [hb, StableHlo.Predicate.toInt_ofNat_small _ (by omega)]
      show min ((b.val : Int)).toNat (R - 1) + 0 + 0 = b.val
      omega
    refine key _ (funext fun b' => ?_)
    match b' with
    | ⟨0, _⟩ => rfl
    | ⟨1, _⟩ => rfl
    | ⟨2, _⟩ => rfl
  | ⟨2, _⟩ =>
    show 0 + y.val + 0 = y.val
    omega

end Cert.Math

end
-- ==== Proof.Spec.lean ====
module

public import proofs.«01_k».proof.Proof.AttnArr
public import proofs.«01_k».proof.Proof.Conv
public import proofs.«01_k».proof.Proof.Words

@[expose] public section

set_option maxRecDepth 16384

noncomputable section

namespace Cert.Math

open Idealize.ShloMosaic Idealize.ShloMosaic.Pointwise
open Cert.KernelIdeal.Hand (sum9 attnRow)

/-- The image, the hash codes, the three weight arrays and the bias. -/
abbrev Image := (⟨4, ![1, 384, 224, 224]⟩ : Shape).Idx → EReal
abbrev Codes := IVec (⟨4, ![1, 4, 224, 224]⟩ : Shape) 32
abbrev WeightX := (⟨4, ![96, 384, 3, 3]⟩ : Shape).Idx → EReal
abbrev WeightY := (⟨4, ![384, 384, 1, 1]⟩ : Shape).Idx → EReal
abbrev WeightO := (⟨4, ![384, 1536, 1, 1]⟩ : Shape).Idx → EReal
abbrev Bias := (⟨1, ![384]⟩ : Shape).Idx → EReal

/-- The image line that a line of the reflected image shows. -/
def mirror (h : ℕ) : Fin 224 :=
  ⟨if h < 1 then 1 else if h - 1 < 224 then h - 1 else 222, by split_ifs <;> omega⟩

theorem mirror_succ (h : Fin 224) : mirror (h + 1) = h := by
  apply Fin.ext
  show (if h.val + 1 < 1 then 1 else if h.val + 1 - 1 < 224 then h.val + 1 - 1 else 222) = h.val
  have := h.isLt
  rw [if_neg (by omega), if_pos (by omega)]
  omega

/-- The reflected image. -/
def padAt (I : Image) (c : Fin 384) (h w : ℕ) : EReal := I (ix4 0 c (mirror h) (mirror w))

/-- The sort key of an element: its code, set apart by hash round. -/
def keyAt (H : Codes) (n : Fin 200704) : BitVec 32 :=
  IntOp.addi (H (ix4 0 ⟨n.val / 50176, by omega⟩ ⟨n.val % 50176 / 224, by omega⟩ ⟨n.val % 224, by omega⟩))
    (IntOp.muli (BitVec.ofNat 32 (n.val / 50176)) 100#32)

/-- The element that the sort puts at a place. -/
def sorted (H : Codes) : Fin 200704 → Fin 200704 := ordOf (keyAt H)

/-- The place where the sort puts an element. -/
def place (H : Codes) : Fin 200704 → Fin 200704 := ordOf fun k => BitVec.ofNat 32 (sorted H k).val

/-- The pixel at a place of the sorted order. -/
def pixel (H : Codes) (n : ℕ) : Fin 50176 :=
  ⟨if h : n < 200704 then (sorted H ⟨n, h⟩).val % 50176 else 0, by split <;> omega⟩

theorem pixel_val (H : Codes) (n : Fin 200704) : (pixel H n.val).val = (sorted H n).val % 50176 := dif_pos n.isLt

/-- The row of a pixel. -/
def rowOf (p : Fin 50176) : Fin 224 := ⟨p.val / 224, by omega⟩
/-- The column of a pixel. -/
def colOf (p : Fin 50176) : Fin 224 := ⟨p.val % 224, by omega⟩

/-- The three by three convolution of the reflected image. -/
def featX (I : Image) (W : WeightX) (p : Fin 50176) (l : Fin 96) : EReal :=
  sum9 fun j => ∑ c : Fin 384, padAt I c ((rowOf p).val + j.val / 3) ((colOf p).val + j.val % 3) * W (ix4 l c ⟨j.val / 3, by omega⟩ ⟨j.val % 3, by omega⟩)

/-- The pointwise convolution. -/
def featY (I : Image) (W : WeightY) (p : Fin 50176) (d : Fin 384) : EReal :=
  ∑ c : Fin 384, I (ix4 0 c (rowOf p) (colOf p)) * W (ix4 d c 0 0)

/-- The matching features in sorted order, by hash round. -/
def rowsX (I : Image) (H : Codes) (W : WeightX) (s : Fin 4) (r : ℕ) (l : Fin 96) : EReal := featX I W (pixel H (s.val * 50176 + r)) l
/-- The values in sorted order, by hash round. -/
def rowsY (I : Image) (H : Codes) (W : WeightY) (s : Fin 4) (r : ℕ) (d : Fin 384) : EReal := featY I W (pixel H (s.val * 50176 + r)) d

/-- What a pixel receives from attention, the hash rounds side by side. -/
def mixed (I : Image) (H : Codes) (Wx : WeightX) (Wy : WeightY) (p : Fin 50176) (k : Fin 1536) : EReal :=
  attnRow (rowsX I H Wx) (rowsY I H Wy)
    ⟨(place H ⟨k.val / 384 * 50176 + p.val, by omega⟩).val / 50176, by omega⟩
    ((place H ⟨k.val / 384 * 50176 + p.val, by omega⟩).val % 50176) ⟨k.val % 384, by omega⟩

/-- The output image. -/
def outAt (I : Image) (H : Codes) (Wx : WeightX) (Wy : WeightY) (Wo : WeightO) (B : Bias) (o : Fin 384) (h w : Fin 224) : EReal :=
  (∑ k : Fin 1536, mixed I H Wx Wy ⟨h.val * 224 + w.val, by omega⟩ k * Wo (ix4 o k 0 0)) + B (ix1 o) + I (ix4 0 o h w)

end Cert.Math

end
-- ==== Proof.KHost0.lean ====
module

public import proofs.«01_k».proof.Proof.Spec
public import Idealize.ShloMosaic.Lib.StableHlo.ReadAt

@[expose] public section

set_option maxRecDepth 16384

noncomputable section

namespace Cert.KernelIdeal.Hand

open Idealize.ShloMosaic Idealize.ShloMosaic.TcCoe Idealize.ShloMosaic.Pointwise Idealize.ShloMosaic.StableHlo Cert.KernelIdeal.Gen Cert.Math

variable (V : Valuation τ sig (Elt Ideal))

/-! What each stretch of host operations leaves, element by element, of what it found. -/

theorem h0_v7 (i : Fin 384) (h w : Fin 224) : after hostOps0 V (Proc.devRef .tc main_v7) (ix4 0 i h w) = V (Proc.devRef .tc main_arg0) (ix4 0 i h w) := by
  unfold hostOps0
  after_reads_at

theorem h0_v0 (i : Fin 384) (h w : Fin 224) : after hostOps0 V (Proc.devRef .tc main_v0) (ix3 i h w) = V (Proc.devRef .tc main_arg0) (ix4 0 i h w) := by
  unfold hostOps0
  after_reads_at

theorem h0_v2 (j : Fin 9) (i : Fin 384) (l : Fin 96) : after hostOps0 V (Proc.devRef .tc main_v2) (ix3 j i l) = V (Proc.devRef .tc main_arg2) (ix4 l i ⟨j.val / 3, by omega⟩ ⟨j.val % 3, by omega⟩) := by
  unfold hostOps0
  after_reads_at

theorem h0_v4 (i d : Fin 384) : after hostOps0 V (Proc.devRef .tc main_v4) (ix2 i d) = V (Proc.devRef .tc main_arg3) (ix4 d i 0 0) := by
  unfold hostOps0
  after_reads_at

theorem h0_v6 (k : Fin 1536) (o : Fin 384) : after hostOps0 V (Proc.devRef .tc main_v6) (ix2 k o) = V (Proc.devRef .tc main_arg4) (ix4 o k 0 0) := by
  unfold hostOps0
  after_reads_at

theorem h2_v10 (i : Fin 384) (p : Fin 51076) : after hostOps0_2 V (Proc.devRef .tc main_v10) (ix2 i p) = V (Proc.devRef .tc main_v8) (ix4 0 i ⟨p.val / 226, by omega⟩ ⟨p.val % 226, by omega⟩) := by
  unfold hostOps0_2
  after_reads_at

theorem h3_v11 (i : Fin 384) (p : Fin 52224) (hp : p.val < 51076) : after hostOps0_3 V (Proc.devRef .tc main_v11) (ix2 i p) = V (Proc.devRef .tc main_v10) (ix2 i ⟨p.val, hp⟩) := by
  unfold hostOps0_3
  after_reads_at
  rw [dif_pos hp]

theorem h4_v12 (i : Fin 384) (p : Fin 51200) : after hostOps0_4 V (Proc.devRef .tc main_v12) (ix2 i p) = V (Proc.devRef .tc main_v11) (ix2 i ⟨p.val, by omega⟩) := by
  unfold hostOps0_4
  after_reads_at

theorem h4_v13 (i : Fin 384) (p : Fin 51200) : after hostOps0_4 V (Proc.devRef .tc main_v13) (ix2 i p) = V (Proc.devRef .tc main_v11) (ix2 i ⟨1024 + p.val, by omega⟩) := by
  unfold hostOps0_4
  after_reads_at

theorem h11_v32 (s : Fin 4) (r : Fin 50176) (l : Fin 96) : after hostOps1_11 V (Proc.devRef .tc main_v32) (ix3 s r l) = V (Proc.devRef .tc main_v31) (ix2 ⟨s.val * 50176 + r.val, by omega⟩ l) := by
  unfold hostOps1_11
  after_reads_at

theorem h13_v34 (s : Fin 4) (r : Fin 50176) (l : Fin 384) : after hostOps1_13 V (Proc.devRef .tc main_v34) (ix3 s r l) = V (Proc.devRef .tc main_v33) (ix2 ⟨s.val * 50176 + r.val, by omega⟩ l) := by
  unfold hostOps1_13
  after_reads_at

theorem g_v38 (n : Fin 200704) : after hostOps2 V (Proc.devRef .tc main_v38) (ix1 n) = V (Proc.devRef .tc main_v24) (ix1 ⟨n.val % 4 * 50176 + n.val / 4, by omega⟩) := by
  unfold hostOps2
  after_reads_at

theorem g_v39 (n : Fin 200704) (d : Fin 384) : after hostOps2 V (Proc.devRef .tc main_v39) (ix2 n d) = V (Proc.devRef .tc main_v35) (ix3 ⟨n.val / 50176, by omega⟩ ⟨n.val % 50176, by omega⟩ d) := by
  unfold hostOps2
  after_reads_at

theorem g2_v41 (p : Fin 50176) (k : Fin 1536) : after hostOps2_2 V (Proc.devRef .tc main_v41) (ix2 p k) = V (Proc.devRef .tc main_v40) (ix2 ⟨p.val * 4 + k.val / 384, by omega⟩ ⟨k.val % 384, by omega⟩) := by
  unfold hostOps2_2
  after_reads_at

theorem g2_v43 (h w : Fin 224) (o : Fin 384) : after hostOps2_2 V (Proc.devRef .tc main_v43) (ix2 ⟨h.val * 224 + w.val, by omega⟩ o) = V (Proc.devRef .tc main_v0) (ix3 o h w) := by
  unfold hostOps2_2
  after_reads_at
  have e1 : (h.val * 224 + w.val) / 224 = h.val := by omega
  have e2 : (h.val * 224 + w.val) % 224 = w.val := by omega
  simp only [e1, e2]

theorem g2_v44 (o : Fin 384) : after hostOps2_2 V (Proc.devRef .tc main_v44) (ix2 0 o) = V (Proc.devRef .tc main_arg5) (ix1 o) := by
  unfold hostOps2_2
  after_reads_at

theorem f_v47 (o : Fin 384) (h w : Fin 224) : after hostOps3 V (Proc.devRef .tc main_v47) (ix4 0 o h w) = V (Proc.devRef .tc main_v45) (ix2 ⟨h.val * 224 + w.val, by omega⟩ o) := by
  unfold hostOps3
  after_reads_at

end Cert.KernelIdeal.Hand

end
-- ==== Proof.KHost1.lean ====
module

public import proofs.«01_k».proof.Proof.Spec
public import Idealize.ShloMosaic.Lib.StableHlo.ReadAt

@[expose] public section

set_option maxRecDepth 16384

noncomputable section

namespace Cert.KernelIdeal.Hand

open Idealize.ShloMosaic Idealize.ShloMosaic.TcCoe Idealize.ShloMosaic.Pointwise Idealize.ShloMosaic.StableHlo Cert.KernelIdeal.Gen Cert.Math

/-- One reflected row above. -/
def padTop (x : FVec Ideal S1x384x224x224 .f32) : FVec Ideal S1x384x225x224 .f32 :=
  concatenate S1x384x225x224 2 [⟨S1x384x1x224, Host.reverse [2] (extractStridedSlice S1x384x1x224 ![0, 0, 1, 0] x slices_S1x384x224x224_S1x384x1x224_0_0_1_0)⟩, ⟨S1x384x224x224, x⟩] concatenates_S1x384x1x224_S1x384x224x224_S1x384x225x224_d2

/-- One reflected row below. -/
def padRows (x : FVec Ideal S1x384x225x224 .f32) : FVec Ideal S1x384x226x224 .f32 :=
  concatenate S1x384x226x224 2 [⟨S1x384x225x224, x⟩, ⟨S1x384x1x224, Host.reverse [2] (extractStridedSlice S1x384x1x224 ![0, 0, 223, 0] x slices_S1x384x225x224_S1x384x1x224_0_0_223_0)⟩] concatenates_S1x384x225x224_S1x384x1x224_S1x384x226x224_d2

/-- One reflected column on the left. -/
def padLeft (x : FVec Ideal S1x384x226x224 .f32) : FVec Ideal S1x384x226x225 .f32 :=
  concatenate S1x384x226x225 3 [⟨S1x384x226x1, Host.reverse [3] (extractStridedSlice S1x384x226x1 ![0, 0, 0, 1] x slices_S1x384x226x224_S1x384x226x1_0_0_0_1)⟩, ⟨S1x384x226x224, x⟩] concatenates_S1x384x226x1_S1x384x226x224_S1x384x226x225_d3

/-- One reflected column on the right. -/
def padAll (x : FVec Ideal S1x384x226x225 .f32) : FVec Ideal S1x384x226x226 .f32 :=
  concatenate S1x384x226x226 3 [⟨S1x384x226x225, x⟩, ⟨S1x384x226x1, Host.reverse [3] (extractStridedSlice S1x384x226x1 ![0, 0, 0, 223] x slices_S1x384x226x225_S1x384x226x1_0_0_0_223)⟩] concatenates_S1x384x226x225_S1x384x226x1_S1x384x226x226_d3

variable (I : Image)

theorem padTop_apply (c : Fin 384) (h : Fin 225) (w : Fin 224) :
    padTop I (ix4 0 c h w) = I (ix4 0 c (mirror h) w) := by
  have := h.isLt
  pointwise [padTop]
  unfold mirror
  split <;> rename_i hh
  · refine congrArg _ ?_; congr 1
  · refine congrArg _ ?_; congr 1; apply Fin.ext; simp only [hh, if_false]; rw [if_pos (by omega)]

theorem padRows_apply (c : Fin 384) (h : Fin 226) (w : Fin 224) :
    padRows (padTop I) (ix4 0 c h w) = I (ix4 0 c (mirror h) w) := by
  have := h.isLt
  unfold padRows
  pointwise
  split <;> rename_i hh
  · exact padTop_apply I c ⟨h, hh⟩ w
  · refine (padTop_apply I c _ w).trans ?_
    refine congrArg _ ?_; congr 1; apply Fin.ext; unfold mirror; simp only []; split_ifs <;> omega

theorem padLeft_apply (c : Fin 384) (h : Fin 226) (w : Fin 225) :
    padLeft (padRows (padTop I)) (ix4 0 c h w) = I (ix4 0 c (mirror h) (mirror w)) := by
  have := w.isLt
  unfold padLeft
  pointwise
  split <;> rename_i hh
  · refine (padRows_apply I c h _).trans ?_
    refine congrArg _ ?_; congr 1; apply Fin.ext; unfold mirror; simp only [hh, if_true]; rfl
  · refine (padRows_apply I c h _).trans ?_
    refine congrArg _ ?_; congr 1; apply Fin.ext; unfold mirror; simp only []; split_ifs <;> omega

/-- The reflected image, element by element. -/
theorem padAll_apply (c : Fin 384) (h w : Fin 226) :
    padAll (padLeft (padRows (padTop I))) (ix4 0 c h w) = padAt I c h w := by
  have := w.isLt
  unfold padAll padAt
  pointwise
  split <;> rename_i hh
  · exact padLeft_apply I c h ⟨w, hh⟩
  · refine (padLeft_apply I c h _).trans ?_
    refine congrArg _ ?_; congr 1; apply Fin.ext; unfold mirror; simp only []; split_ifs <;> omega

theorem part0 (V : Valuation τ sig (Elt Ideal)) :
    after ((hostOps0_1.drop 0).take 4) V (Proc.devRef .tc main_call0_v3) = padTop (V (Proc.devRef .tc main_v7)) := by
  simp only [hostOps0_1, List.take, List.drop, TRef.nullary, TRef.ternary, TRef.binary, TRef.unary, TRef.toBuf, TRef.ofBuf, cast_eq]
  after_results_simp
  rfl

theorem part1 (V : Valuation τ sig (Elt Ideal)) :
    after ((hostOps0_1.drop 4).take 4) V (Proc.devRef .tc main_call0_v7) = padRows (V (Proc.devRef .tc main_call0_v3)) := by
  simp only [hostOps0_1, List.take, List.drop, TRef.nullary, TRef.ternary, TRef.binary, TRef.unary, TRef.toBuf, TRef.ofBuf, cast_eq]
  after_results_simp
  rfl

theorem part2 (V : Valuation τ sig (Elt Ideal)) :
    after ((hostOps0_1.drop 8).take 4) V (Proc.devRef .tc main_call0_v11) = padLeft (V (Proc.devRef .tc main_call0_v7)) := by
  simp only [hostOps0_1, List.take, List.drop, TRef.nullary, TRef.ternary, TRef.binary, TRef.unary, TRef.toBuf, TRef.ofBuf, cast_eq]
  after_results_simp
  rfl

theorem part3 (V : Valuation τ sig (Elt Ideal)) :
    after ((hostOps0_1.drop 12).take 4) V (Proc.devRef .tc main_v8) = padAll (V (Proc.devRef .tc main_call0_v11)) := by
  simp only [hostOps0_1, List.take, List.drop, TRef.nullary, TRef.ternary, TRef.binary, TRef.unary, TRef.toBuf, TRef.ofBuf, cast_eq]
  after_results_simp
  rfl

theorem h1_v8 (V : Valuation τ sig (Elt Ideal)) :
    after hostOps0_1 V (Proc.devRef .tc main_v8) = padAll (padLeft (padRows (padTop (V (Proc.devRef .tc main_v7))))) := by
  have e : after hostOps0_1 V = after ((hostOps0_1.drop 12).take 4) (after ((hostOps0_1.drop 8).take 4) (after ((hostOps0_1.drop 4).take 4) (after ((hostOps0_1.drop 0).take 4) V))) := rfl
  rw [e, part3, part2, part1, part0]

end Cert.KernelIdeal.Hand

end
-- ==== Proof.KFeat.lean ====
module

public import proofs.«01_k».proof.Proof.Spec
public import proofs.«01_k».proof.Proof.KHost0
public import proofs.«01_k».proof.Proof.KHost1
public import proofs.«01_k».proof.Proof.Conv

@[expose] public section

set_option maxRecDepth 16384

noncomputable section

namespace Cert.KernelIdeal.Hand

open Idealize.ShloMosaic Idealize.ShloMosaic.TcCoe Idealize.ShloMosaic.Pointwise Idealize.ShloMosaic.StableHlo Cert.KernelIdeal.Gen Cert.Math

variable (m : (ℓ : Loc nD τ sig) → Buf (Elt Ideal) ℓ) (ρ : Dev nD → PrngReg) (c : Dev nD)

/-- The arguments as launched. -/
abbrev argI : Image := m ((c : Thread nD τ).loc main_arg0)
abbrev argH : Codes := m ((c : Thread nD τ).loc main_arg1)
abbrev argX : WeightX := m ((c : Thread nD τ).loc main_arg2)
abbrev argY : WeightY := m ((c : Thread nD τ).loc main_arg3)
abbrev argO : WeightO := m ((c : Thread nD τ).loc main_arg4)
abbrev argB : Bias := m ((c : Thread nD τ).loc main_arg5)

/-- A channel of a flat image read at any place. -/
def flatOf (x : FVec Ideal S384x52224 .f32) (i : Fin 384) (p : ℕ) : EReal := if h : p < 52224 then x (ix2 i ⟨p, h⟩) else 0

/-- The kernel's flat image. -/
abbrev flatImg : Fin 384 → ℕ → EReal := flatOf (W4 m ρ c (Proc.devRef .tc main_v11))

theorem flat_low (i : Fin 384) (p : Fin 51200) : V5 m ρ c main_v12 (ix2 i p) = flatImg m ρ c i p :=
  (h4_v12 (W4 m ρ c) i p).trans (by unfold flatImg flatOf; rw [dif_pos (by omega)])

theorem flat_high (i : Fin 384) (p : Fin 51200) : V5 m ρ c main_v13 (ix2 i p) = flatImg m ρ c i (p + 1024) := by
  refine (h4_v13 (W4 m ρ c) i p).trans ?_
  unfold flatImg flatOf
  rw [dif_pos (by omega)]
  refine congrArg (fun q => W4 m ρ c (Proc.devRef .tc main_v11) (ix2 i q)) (Fin.ext ?_)
  simp only []
  omega

theorem flat_pad (i : Fin 384) (p : ℕ) (hp : p < 51076) : flatImg m ρ c i p = padAt (argI m c) i (p / 226) (p % 226) := by
  unfold flatImg flatOf
  rw [dif_pos (by omega)]
  refine (h3_v11 (W3 m ρ c) i ⟨p, by omega⟩ hp).trans ?_
  refine (h2_v10 (W2 m ρ c) i ⟨p, hp⟩).trans ?_
  refine (congrFun (h1_v8 (W1 m ρ c)) _).trans ?_
  refine (padAll_apply _ i _ _).trans ?_
  exact h0_v7 (W0 m ρ c) i _ _

theorem weight_x (j : Fin 9) (i : Fin 384) (l : Fin 96) :
    V5 m ρ c main_v2 (ix3 j i l) = argX m c (ix4 l i ⟨j.val / 3, by omega⟩ ⟨j.val % 3, by omega⟩) := by
  refine (congrFun (W5_of m ρ c main_v2 (by decide)) _).trans ?_
  refine (congrFun (W4_of m ρ c main_v2 (by decide)) _).trans ?_
  refine (congrFun (W3_of m ρ c main_v2 (by decide)) _).trans ?_
  refine (congrFun (W2_of m ρ c main_v2 (by decide)) _).trans ?_
  exact h0_v2 (W0 m ρ c) j i l

theorem weight_y (i d : Fin 384) : V5 m ρ c main_v4 (ix2 i d) = argY m c (ix4 d i 0 0) := by
  refine (congrFun (W5_of m ρ c main_v4 (by decide)) _).trans ?_
  refine (congrFun (W4_of m ρ c main_v4 (by decide)) _).trans ?_
  refine (congrFun (W3_of m ρ c main_v4 (by decide)) _).trans ?_
  refine (congrFun (W2_of m ρ c main_v4 (by decide)) _).trans ?_
  exact h0_v4 (W0 m ρ c) i d

theorem off_eq (j : Fin 9) : off j = j.val / 3 * 226 + j.val % 3 := by
  fin_cases j <;> rfl

/-- The table row of a pixel. -/
def tableRow (p : Fin 50176) : Fin 51200 := ⟨(rowOf p).val * 226 + (colOf p).val, by have := (rowOf p).isLt; have := (colOf p).isLt; omega⟩

theorem feat_x (p : Fin 50176) (l : Fin 96) :
    W6 m ρ c (Proc.devRef .tc main_v14_0) (ix2 (tableRow p) l) = featX (argI m c) (argX m c) p l := by
  refine (congrFun (W6_arr m ρ c 4) (ix2 (tableRow p) l)).trans ?_
  refine (congrFun (arrX (V5 m ρ) (flatImg m ρ c) c (flat_low m ρ c) (flat_high m ρ c)) (ix2 (tableRow p) l)).trans ?_
  show convX (flatImg m ρ c) (V5 m ρ c main_v2) (tableRow p).val l = _
  have hr := (rowOf p).isLt
  have hc := (colOf p).isLt
  unfold convX featX
  refine congrArg sum9 (funext fun j => Finset.sum_congr rfl fun i _ => congrArg₂ (fun a b : EReal => a * b) ?_ (weight_x m ρ c j i l))
  have e1 : ((tableRow p).val + off j) / 226 = (rowOf p).val + j.val / 3 := by rw [off_eq]; unfold tableRow; simp only []; omega
  have e2 : ((tableRow p).val + off j) % 226 = (colOf p).val + j.val % 3 := by rw [off_eq]; unfold tableRow; simp only []; omega
  refine (flat_pad m ρ c i _ (by omega)).trans ?_
  rw [e1, e2]

theorem feat_y (p : Fin 50176) (d : Fin 384) :
    W6 m ρ c (Proc.devRef .tc main_v14_1) (ix2 (tableRow p) d) = featY (argI m c) (argY m c) p d := by
  refine (congrFun (W6_arr m ρ c 5) (ix2 (tableRow p) d)).trans ?_
  refine (congrFun (arrY (V5 m ρ) (flatImg m ρ c) c (flat_low m ρ c) (flat_high m ρ c)) (ix2 (tableRow p) d)).trans ?_
  show convY (flatImg m ρ c) (V5 m ρ c main_v4) (tableRow p).val d = _
  have hr := (rowOf p).isLt
  have hc := (colOf p).isLt
  unfold convY featY
  refine Finset.sum_congr rfl fun i _ => congrArg₂ (fun a b : EReal => a * b) ?_ (weight_y m ρ c i d)
  have e1 : ((tableRow p).val + 227) / 226 = (rowOf p).val + 1 := by unfold tableRow; simp only []; omega
  have e2 : ((tableRow p).val + 227) % 226 = (colOf p).val + 1 := by unfold tableRow; simp only []; omega
  refine (flat_pad m ρ c i _ (by omega)).trans ?_
  rw [e1, e2]
  unfold padAt
  rw [mirror_succ, mirror_succ]

end Cert.KernelIdeal.Hand

end
-- ==== Proof.KWords.lean ====
module

public import proofs.«01_k».proof.Proof.Spec
public import Idealize.ShloMosaic.Lib.StableHlo.ReadAt
public import Idealize.ShloMosaic.Lib.Routing.Model

@[expose] public section

set_option maxRecDepth 16384

noncomputable section

namespace Cert.KernelIdeal.Hand

open Idealize.ShloMosaic Idealize.ShloMosaic.TcCoe Idealize.ShloMosaic.Pointwise Idealize.ShloMosaic.StableHlo Cert.KernelIdeal.Gen Cert.Math

variable (V : Valuation τ sig (Elt Ideal))

theorem keys_apply (H : Codes) (hH : V (Proc.devRef .tc main_arg1) = H) (n : Fin 200704) :
    after hostOps1 V (Proc.devRef .tc main_v22) (ix1 n) = keyAt H n := by
  subst hH
  have e : n.val % 50176 % 224 = n.val % 224 := by omega
  unfold hostOps1 keyAt
  after_reads_at
  simp only [e]

theorem sorted_read : after hostOps1_1 V (Proc.devRef .tc main_v23) = (Host.sort2 S200704 0 comparator_i32_i32_d0 (V (Proc.devRef .tc main_v22)) (iotaInDim S200704 32 0)).2 := by
  simp only [hostOps1_1, TRef.nullary, TRef.ternary, TRef.binary, TRef.unary, TRef.toBuf, TRef.ofBuf, cast_eq]
  after_results_simp

theorem place_read : after hostOps1_2 V (Proc.devRef .tc main_v24) = (Host.sort2 S200704 0 comparator_i32_i32_d0 (V (Proc.devRef .tc main_v23)) (iotaInDim S200704 32 0)).2 := by
  simp only [hostOps1_2, TRef.nullary, TRef.ternary, TRef.binary, TRef.unary, TRef.toBuf, TRef.ofBuf, cast_eq]
  after_results_simp

theorem sorted_apply (H : Codes) (h : ∀ n : Fin 200704, V (Proc.devRef .tc main_v22) (ix1 n) = keyAt H n) (n : Fin 200704) :
    after hostOps1_1 V (Proc.devRef .tc main_v23) (ix1 n) = BitVec.ofNat 32 (sorted H n).val := by
  rw [sorted_read]
  refine (argsort_vec (n := 200704) (V (Proc.devRef .tc main_v22)) n).trans ?_
  unfold sorted
  rw [funext h]

theorem place_apply (H : Codes) (h : ∀ n : Fin 200704, V (Proc.devRef .tc main_v23) (ix1 n) = BitVec.ofNat 32 (sorted H n).val) (n : Fin 200704) :
    after hostOps1_2 V (Proc.devRef .tc main_v24) (ix1 n) = BitVec.ofNat 32 (place H n).val := by
  rw [place_read]
  refine (argsort_vec (n := 200704) (V (Proc.devRef .tc main_v23)) n).trans ?_
  unfold place
  rw [funext h]

theorem rem_read : after hostOps1_4 V (Proc.devRef .tc main_v25) = Routing.pyRem bcast_S_S200704 (V (Proc.devRef .tc main_v23)) (V (Proc.devRef .tc main_c_2)) := by
  simp only [hostOps1_4, TRef.nullary, TRef.ternary, TRef.binary, TRef.unary, TRef.toBuf, TRef.ofBuf, cast_eq]
  after_results_simp
  rfl

theorem div_read : after hostOps1_6 V (Proc.devRef .tc main_v26) = Routing.pyDiv bcast_S_S200704 (V (Proc.devRef .tc main_v25)) (V (Proc.devRef .tc main_c_3)) := by
  simp only [hostOps1_6, TRef.nullary, TRef.ternary, TRef.binary, TRef.unary, TRef.toBuf, TRef.ofBuf, cast_eq]
  after_results_simp
  rfl

theorem col_read : after hostOps1_8 V (Proc.devRef .tc main_v29) = Routing.pyRem bcast_S_S200704 (V (Proc.devRef .tc main_v25)) (V (Proc.devRef .tc main_c_5)) := by
  simp only [hostOps1_8, TRef.nullary, TRef.ternary, TRef.binary, TRef.unary, TRef.toBuf, TRef.ofBuf, cast_eq]
  after_results_simp
  rfl

theorem c2_read : after hostOps1_3 V (Proc.devRef .tc main_c_2) = constantI S_ 32 50176#32 := by
  simp only [hostOps1_3]
  after_results_simp

theorem c3_read : after hostOps1_5 V (Proc.devRef .tc main_c_3) = constantI S_ 32 224#32 := by
  simp only [hostOps1_5]
  after_results_simp

theorem c5_read : after hostOps1_7 V (Proc.devRef .tc main_c_5) = constantI S_ 32 224#32 := by
  simp only [hostOps1_7]
  after_results_simp

theorem scaled_read (n : Fin 200704) : after hostOps1_7 V (Proc.devRef .tc main_v28) (ix1 n) = IntOp.muli (V (Proc.devRef .tc main_v26) (ix1 n)) 226#32 := by
  unfold hostOps1_7
  after_reads_at

theorem sum_read (n : Fin 200704) : after hostOps1_9 V (Proc.devRef .tc main_v30) (ix1 n) = IntOp.addi (V (Proc.devRef .tc main_v28) (ix1 n)) (V (Proc.devRef .tc main_v29) (ix1 n)) := by
  unfold hostOps1_9
  after_reads_at

end Cert.KernelIdeal.Hand

end
-- ==== Proof.KTake.lean ====
module

public import proofs.«01_k».proof.Proof.Spec
public import Idealize.ShloMosaic.Lib.StableHlo.ReadAt

@[expose] public section

set_option maxRecDepth 16384

noncomputable section

namespace Cert.KernelIdeal.Hand

open Idealize.ShloMosaic Idealize.ShloMosaic.TcCoe Idealize.ShloMosaic.Pointwise Idealize.ShloMosaic.StableHlo Cert.KernelIdeal.Gen Cert.Math

/-- Rows of a table taken by index, indices out of range filled. -/
def takeX (x : FVec Ideal S51200x96 .f32) (i : IVec S200704 32) : FVec Ideal S200704x96 .f32 :=
  select (broadcastInDim S200704x96 ![0] bcast_S200704_S200704x96_0 (Host.reduce IntOp.andi (andi (cmpi .sge (broadcastInDim S200704x1 ![0] bcast_S200704_S200704x1_0 (select (cmpi .slt i (broadcastInDim S200704 ![] bcast_S_S200704 (constantI S_ 32 0#32))) (addi i (broadcastInDim S200704 ![] bcast_S_S200704 (constantI S_ 32 51200#32))) i)) (broadcastInDim S200704x1 ![] bcast_S_S200704x1 (constantI S_ 32 0#32))) (cmpi .sle (broadcastInDim S200704x1 ![0] bcast_S200704_S200704x1_0 (select (cmpi .slt i (broadcastInDim S200704 ![] bcast_S_S200704 (constantI S_ 32 0#32))) (addi i (broadcastInDim S200704 ![] bcast_S_S200704 (constantI S_ 32 51200#32))) i)) (broadcastInDim S200704x1 ![0, 1] bcast_S1x1_S200704x1_0_1 (broadcastInDim S1x1 ![1] bcast_S1_S1x1_1 (constantI S1 32 51199#32))))) (constantI S_ 1 1#1) reducesTo_S200704x1_S200704_d1 h_S_)) (Host.gather gather_S51200x96_S200704x1_S200704x96_1_0_n_n_0_1_196 x (broadcastInDim S200704x1 ![0] bcast_S200704_S200704x1_0 (select (cmpi .slt i (broadcastInDim S200704 ![] bcast_S_S200704 (constantI S_ 32 0#32))) (addi i (broadcastInDim S200704 ![] bcast_S_S200704 (constantI S_ 32 51200#32))) i))) (broadcastInDim S200704x96 ![] bcast_S_S200704x96 (constant S_ .f32 0x7FC00000#32 : FVec Ideal S_ .f32))

theorem takeX_apply (x : FVec Ideal S51200x96 .f32) (i : IVec S200704 32) (b : Fin 200704 → Fin 51200) (hb : ∀ n, i (ix1 n) = BitVec.ofNat 32 (b n).val) (n : Fin 200704) (l : Fin 96) :
    takeX x i (ix2 n l) = x (ix2 (b n) l) := by
  have ht : ∀ j : S200704.Idx, (i j).toNat < 51200 := fun j => by
    rw [eq_ix1 j]
    refine lt_of_eq_of_lt (congrArg BitVec.toNat (hb (j 0))) ?_
    rw [BitVec.toNat_ofNat]
    have := (b (j 0)).isLt
    omega
  unfold takeX
  rw [wrap_vec]
  case hz => exact fun _ => rfl
  case hi => intro j; have := ht j; omega
  rw [take_fill (N := 51200)]
  case hN => omega
  case hlo => exact fun _ => rfl
  case hhi => exact fun _ => rfl
  case hone => exact fun _ => rfl
  case hv => exact fun j => ht _
  refine Routing.gather_row gather_S51200x96_S200704x1_S200704x96_1_0_n_n_0_1_196 rfl rfl rfl rfl rfl x _ n l (b n) ?_ (by omega)
  pointwise
  exact hb n

set_option maxHeartbeats 4000000 in
theorem takeX_read (V : Valuation τ sig (Elt Ideal)) :
    after hostOps1_10 V (Proc.devRef .tc main_v31) = takeX (V (Proc.devRef .tc main_v14_0)) (V (Proc.devRef .tc main_v30)) := by
  simp only [hostOps1_10, TRef.nullary, TRef.ternary, TRef.binary, TRef.unary, TRef.toBuf, TRef.ofBuf, cast_eq]
  after_results_simp
  rfl

/-- Rows of a table taken by index, indices out of range filled. -/
def takeY (x : FVec Ideal S51200x384 .f32) (i : IVec S200704 32) : FVec Ideal S200704x384 .f32 :=
  select (broadcastInDim S200704x384 ![0] bcast_S200704_S200704x384_0 (Host.reduce IntOp.andi (andi (cmpi .sge (broadcastInDim S200704x1 ![0] bcast_S200704_S200704x1_0 (select (cmpi .slt i (broadcastInDim S200704 ![] bcast_S_S200704 (constantI S_ 32 0#32))) (addi i (broadcastInDim S200704 ![] bcast_S_S200704 (constantI S_ 32 51200#32))) i)) (broadcastInDim S200704x1 ![] bcast_S_S200704x1 (constantI S_ 32 0#32))) (cmpi .sle (broadcastInDim S200704x1 ![0] bcast_S200704_S200704x1_0 (select (cmpi .slt i (broadcastInDim S200704 ![] bcast_S_S200704 (constantI S_ 32 0#32))) (addi i (broadcastInDim S200704 ![] bcast_S_S200704 (constantI S_ 32 51200#32))) i)) (broadcastInDim S200704x1 ![0, 1] bcast_S1x1_S200704x1_0_1 (broadcastInDim S1x1 ![1] bcast_S1_S1x1_1 (constantI S1 32 51199#32))))) (constantI S_ 1 1#1) reducesTo_S200704x1_S200704_d1 h_S_)) (Host.gather gather_S51200x384_S200704x1_S200704x384_1_0_n_n_0_1_1384 x (broadcastInDim S200704x1 ![0] bcast_S200704_S200704x1_0 (select (cmpi .slt i (broadcastInDim S200704 ![] bcast_S_S200704 (constantI S_ 32 0#32))) (addi i (broadcastInDim S200704 ![] bcast_S_S200704 (constantI S_ 32 51200#32))) i))) (broadcastInDim S200704x384 ![] bcast_S_S200704x384 (constant S_ .f32 0x7FC00000#32 : FVec Ideal S_ .f32))

theorem takeY_apply (x : FVec Ideal S51200x384 .f32) (i : IVec S200704 32) (b : Fin 200704 → Fin 51200) (hb : ∀ n, i (ix1 n) = BitVec.ofNat 32 (b n).val) (n : Fin 200704) (l : Fin 384) :
    takeY x i (ix2 n l) = x (ix2 (b n) l) := by
  have ht : ∀ j : S200704.Idx, (i j).toNat < 51200 := fun j => by
    rw [eq_ix1 j]
    refine lt_of_eq_of_lt (congrArg BitVec.toNat (hb (j 0))) ?_
    rw [BitVec.toNat_ofNat]
    have := (b (j 0)).isLt
    omega
  unfold takeY
  rw [wrap_vec]
  case hz => exact fun _ => rfl
  case hi => intro j; have := ht j; omega
  rw [take_fill (N := 51200)]
  case hN => omega
  case hlo => exact fun _ => rfl
  case hhi => exact fun _ => rfl
  case hone => exact fun _ => rfl
  case hv => exact fun j => ht _
  refine Routing.gather_row gather_S51200x384_S200704x1_S200704x384_1_0_n_n_0_1_1384 rfl rfl rfl rfl rfl x _ n l (b n) ?_ (by omega)
  pointwise
  exact hb n

set_option maxHeartbeats 4000000 in
theorem takeY_read (V : Valuation τ sig (Elt Ideal)) :
    after hostOps1_12 V (Proc.devRef .tc main_v33) = takeY (V (Proc.devRef .tc main_v14_1)) (V (Proc.devRef .tc main_v30)) := by
  simp only [hostOps1_12, TRef.nullary, TRef.ternary, TRef.binary, TRef.unary, TRef.toBuf, TRef.ofBuf, cast_eq]
  after_results_simp
  rfl

/-- Rows of a table taken by index, indices out of range filled. -/
def takeBack (x : FVec Ideal S200704x384 .f32) (i : IVec S200704 32) : FVec Ideal S200704x384 .f32 :=
  select (broadcastInDim S200704x384 ![0] bcast_S200704_S200704x384_0 (Host.reduce IntOp.andi (andi (cmpi .sge (broadcastInDim S200704x1 ![0] bcast_S200704_S200704x1_0 (select (cmpi .slt i (broadcastInDim S200704 ![] bcast_S_S200704 (constantI S_ 32 0#32))) (addi i (broadcastInDim S200704 ![] bcast_S_S200704 (constantI S_ 32 200704#32))) i)) (broadcastInDim S200704x1 ![] bcast_S_S200704x1 (constantI S_ 32 0#32))) (cmpi .sle (broadcastInDim S200704x1 ![0] bcast_S200704_S200704x1_0 (select (cmpi .slt i (broadcastInDim S200704 ![] bcast_S_S200704 (constantI S_ 32 0#32))) (addi i (broadcastInDim S200704 ![] bcast_S_S200704 (constantI S_ 32 200704#32))) i)) (broadcastInDim S200704x1 ![0, 1] bcast_S1x1_S200704x1_0_1 (broadcastInDim S1x1 ![1] bcast_S1_S1x1_1 (constantI S1 32 200703#32))))) (constantI S_ 1 1#1) reducesTo_S200704x1_S200704_d1 h_S_)) (Host.gather gather_S200704x384_S200704x1_S200704x384_1_0_n_n_0_1_1384 x (broadcastInDim S200704x1 ![0] bcast_S200704_S200704x1_0 (select (cmpi .slt i (broadcastInDim S200704 ![] bcast_S_S200704 (constantI S_ 32 0#32))) (addi i (broadcastInDim S200704 ![] bcast_S_S200704 (constantI S_ 32 200704#32))) i))) (broadcastInDim S200704x384 ![] bcast_S_S200704x384 (constant S_ .f32 0x7FC00000#32 : FVec Ideal S_ .f32))

theorem takeBack_apply (x : FVec Ideal S200704x384 .f32) (i : IVec S200704 32) (b : Fin 200704 → Fin 200704) (hb : ∀ n, i (ix1 n) = BitVec.ofNat 32 (b n).val) (n : Fin 200704) (l : Fin 384) :
    takeBack x i (ix2 n l) = x (ix2 (b n) l) := by
  have ht : ∀ j : S200704.Idx, (i j).toNat < 200704 := fun j => by
    rw [eq_ix1 j]
    refine lt_of_eq_of_lt (congrArg BitVec.toNat (hb (j 0))) ?_
    rw [BitVec.toNat_ofNat]
    have := (b (j 0)).isLt
    omega
  unfold takeBack
  rw [wrap_vec]
  case hz => exact fun _ => rfl
  case hi => intro j; have := ht j; omega
  rw [take_fill (N := 200704)]
  case hN => omega
  case hlo => exact fun _ => rfl
  case hhi => exact fun _ => rfl
  case hone => exact fun _ => rfl
  case hv => exact fun j => ht _
  refine Routing.gather_row gather_S200704x384_S200704x1_S200704x384_1_0_n_n_0_1_1384 rfl rfl rfl rfl rfl x _ n l (b n) ?_ (by omega)
  pointwise
  exact hb n

set_option maxHeartbeats 4000000 in
theorem takeBack_read (V : Valuation τ sig (Elt Ideal)) :
    after hostOps2_1 V (Proc.devRef .tc main_v40) = takeBack (V (Proc.devRef .tc main_v39)) (V (Proc.devRef .tc main_v38)) := by
  simp only [hostOps2_1, TRef.nullary, TRef.ternary, TRef.binary, TRef.unary, TRef.toBuf, TRef.ofBuf, cast_eq]
  after_results_simp
  rfl

end Cert.KernelIdeal.Hand

end
-- ==== Proof.KIdx.lean ====
module

public import proofs.«01_k».proof.Proof.KFeat
public import proofs.«01_k».proof.Proof.KWords
public import proofs.«01_k».proof.Proof.KTake

@[expose] public section

set_option maxRecDepth 16384

noncomputable section

namespace Cert.KernelIdeal.Hand

open Idealize.ShloMosaic Idealize.ShloMosaic.TcCoe Idealize.ShloMosaic.Pointwise Idealize.ShloMosaic.StableHlo Cert.KernelIdeal.Gen Cert.Math

variable (m : (ℓ : Loc nD τ sig) → Buf (Elt Ideal) ℓ) (ρ : Dev nD → PrngReg) (c : Dev nD)

theorem keep_v23_10 : W10 m ρ c (Proc.devRef .tc main_v23) = W8 m ρ c (Proc.devRef .tc main_v23) :=
  (W10_of m ρ c main_v23 (by decide)).trans <|
  W9_of m ρ c main_v23 (by decide)

theorem keep_v25_12 : W12 m ρ c (Proc.devRef .tc main_v25) = W11 m ρ c (Proc.devRef .tc main_v25) :=
  W12_of m ρ c main_v25 (by decide)

theorem keep_v25_14 : W14 m ρ c (Proc.devRef .tc main_v25) = W11 m ρ c (Proc.devRef .tc main_v25) :=
  (W14_of m ρ c main_v25 (by decide)).trans <|
  (W13_of m ρ c main_v25 (by decide)).trans <|
  W12_of m ρ c main_v25 (by decide)

theorem keep_v28_15 : W15 m ρ c (Proc.devRef .tc main_v28) = W14 m ρ c (Proc.devRef .tc main_v28) :=
  W15_of m ρ c main_v28 (by decide)

theorem keep_v14_0_16 : W16 m ρ c (Proc.devRef .tc main_v14_0) = W6 m ρ c (Proc.devRef .tc main_v14_0) :=
  (W16_of m ρ c main_v14_0 (by decide)).trans <|
  (W15_of m ρ c main_v14_0 (by decide)).trans <|
  (W14_of m ρ c main_v14_0 (by decide)).trans <|
  (W13_of m ρ c main_v14_0 (by decide)).trans <|
  (W12_of m ρ c main_v14_0 (by decide)).trans <|
  (W11_of m ρ c main_v14_0 (by decide)).trans <|
  (W10_of m ρ c main_v14_0 (by decide)).trans <|
  (W9_of m ρ c main_v14_0 (by decide)).trans <|
  (W8_of m ρ c main_v14_0 (by decide)).trans <|
  W7_of m ρ c main_v14_0 (by decide)

theorem keep_v14_1_18 : W18 m ρ c (Proc.devRef .tc main_v14_1) = W6 m ρ c (Proc.devRef .tc main_v14_1) :=
  (W18_of m ρ c main_v14_1 (by decide)).trans <|
  (W17_of m ρ c main_v14_1 (by decide)).trans <|
  (W16_of m ρ c main_v14_1 (by decide)).trans <|
  (W15_of m ρ c main_v14_1 (by decide)).trans <|
  (W14_of m ρ c main_v14_1 (by decide)).trans <|
  (W13_of m ρ c main_v14_1 (by decide)).trans <|
  (W12_of m ρ c main_v14_1 (by decide)).trans <|
  (W11_of m ρ c main_v14_1 (by decide)).trans <|
  (W10_of m ρ c main_v14_1 (by decide)).trans <|
  (W9_of m ρ c main_v14_1 (by decide)).trans <|
  (W8_of m ρ c main_v14_1 (by decide)).trans <|
  W7_of m ρ c main_v14_1 (by decide)

theorem keep_v30_18 : W18 m ρ c (Proc.devRef .tc main_v30) = W16 m ρ c (Proc.devRef .tc main_v30) :=
  (W18_of m ρ c main_v30 (by decide)).trans <|
  W17_of m ρ c main_v30 (by decide)

theorem keep_v32_20 : W20 m ρ c (Proc.devRef .tc main_v32) = W18 m ρ c (Proc.devRef .tc main_v32) :=
  (W20_of m ρ c main_v32 (by decide)).trans <|
  W19_of m ρ c main_v32 (by decide)

theorem sorted_at (n : Fin 200704) : W8 m ρ c (Proc.devRef .tc main_v23) (ix1 n) = BitVec.ofNat 32 (sorted (argH m c) n).val :=
  sorted_apply (W7 m ρ c) (argH m c) (keys_apply (W6 m ρ c) (argH m c) (W6_args m ρ c main_arg1 (by decide))) n

theorem place_at (n : Fin 200704) : W9 m ρ c (Proc.devRef .tc main_v24) (ix1 n) = BitVec.ofNat 32 (place (argH m c) n).val :=
  place_apply (W8 m ρ c) (argH m c) (sorted_at m ρ c) n

theorem pixel_at (n : Fin 200704) : W11 m ρ c (Proc.devRef .tc main_v25) (ix1 n) = BitVec.ofNat 32 (pixel (argH m c) n.val).val := by
  refine (congrFun (rem_read (W10 m ρ c)) (ix1 n)).trans ?_
  rw [pixel_val]
  exact Routing.pyRem_ap bcast_S_S200704 _ _ (ix1 n) (a := (sorted (argH m c) n).val) (b := 50176)
    ((congrFun (keep_v23_10 m ρ c) (ix1 n)).trans (sorted_at m ρ c n)) (congrFun (c2_read (W9 m ρ c)) ix0)
    (by have := (sorted (argH m c) n).isLt; omega) (by omega) (by omega)

theorem row_at (n : Fin 200704) : W13 m ρ c (Proc.devRef .tc main_v26) (ix1 n) = BitVec.ofNat 32 ((pixel (argH m c) n.val).val / 224) := by
  refine (congrFun (div_read (W12 m ρ c)) (ix1 n)).trans ?_
  exact Routing.pyDiv_ap bcast_S_S200704 _ _ (ix1 n) (a := (pixel (argH m c) n.val).val) (b := 224)
    ((congrFun (keep_v25_12 m ρ c) (ix1 n)).trans (pixel_at m ρ c n)) (congrFun (c3_read (W11 m ρ c)) ix0)
    (by have := (pixel (argH m c) n.val).isLt; omega) (by omega) (by omega)

theorem col_at (n : Fin 200704) : W15 m ρ c (Proc.devRef .tc main_v29) (ix1 n) = BitVec.ofNat 32 ((pixel (argH m c) n.val).val % 224) := by
  refine (congrFun (col_read (W14 m ρ c)) (ix1 n)).trans ?_
  exact Routing.pyRem_ap bcast_S_S200704 _ _ (ix1 n) (a := (pixel (argH m c) n.val).val) (b := 224)
    ((congrFun (keep_v25_14 m ρ c) (ix1 n)).trans (pixel_at m ρ c n)) (congrFun (c5_read (W13 m ρ c)) ix0)
    (by have := (pixel (argH m c) n.val).isLt; omega) (by omega) (by omega)

theorem index_at (n : Fin 200704) : W16 m ρ c (Proc.devRef .tc main_v30) (ix1 n) = BitVec.ofNat 32 (tableRow (pixel (argH m c) n.val)).val := by
  refine (sum_read (W15 m ρ c) n).trans ?_
  refine (congrArg₂ IntOp.addi ((congrFun (keep_v28_15 m ρ c) (ix1 n)).trans ((scaled_read (W13 m ρ c) n).trans (congrArg (fun z => IntOp.muli z 226#32) (row_at m ρ c n)))) (col_at m ρ c n)).trans ?_
  show BitVec.ofNat 32 ((pixel (argH m c) n.val).val / 224) * BitVec.ofNat 32 226 + BitVec.ofNat 32 ((pixel (argH m c) n.val).val % 224) = _
  rw [← BitVec.ofNat_mul, ← BitVec.ofNat_add]
  rfl

theorem taken_x (n : Fin 200704) (l : Fin 96) : W17 m ρ c (Proc.devRef .tc main_v31) (ix2 n l) = featX (argI m c) (argX m c) (pixel (argH m c) n.val) l := by
  refine (congrFun (takeX_read (W16 m ρ c)) (ix2 n l)).trans ?_
  refine (takeX_apply _ _ (fun n => tableRow (pixel (argH m c) n.val)) (index_at m ρ c) n l).trans ?_
  exact (congrFun (keep_v14_0_16 m ρ c) _).trans (feat_x m ρ c _ l)

theorem taken_y (n : Fin 200704) (d : Fin 384) : W19 m ρ c (Proc.devRef .tc main_v33) (ix2 n d) = featY (argI m c) (argY m c) (pixel (argH m c) n.val) d := by
  refine (congrFun (takeY_read (W18 m ρ c)) (ix2 n d)).trans ?_
  refine (takeY_apply _ _ (fun n => tableRow (pixel (argH m c) n.val)) (fun n => (congrFun (keep_v30_18 m ρ c) (ix1 n)).trans (index_at m ρ c n)) n d).trans ?_
  exact (congrFun (keep_v14_1_18 m ρ c) _).trans (feat_y m ρ c _ d)

/-- The matching features that enter the attention. -/
theorem rows_x (s : Fin 4) (r : Fin 50176) (l : Fin 96) : V20 m ρ c main_v32 (ix3 s r l) = rowsX (argI m c) (argH m c) (argX m c) s r.val l :=
  (congrFun (keep_v32_20 m ρ c) (ix3 s r l)).trans ((h11_v32 (W17 m ρ c) s r l).trans (taken_x m ρ c _ l))

/-- The values that enter the attention. -/
theorem rows_y (s : Fin 4) (r : Fin 50176) (d : Fin 384) : V20 m ρ c main_v34 (ix3 s r d) = rowsY (argI m c) (argH m c) (argY m c) s r.val d :=
  (h13_v34 (W19 m ρ c) s r d).trans (taken_y m ρ c _ d)

end Cert.KernelIdeal.Hand

end
-- ==== Proof.AttnGrid.lean ====
module

public import proofs.«01_k».proof.Proof.AttnArr

@[expose] public section

set_option maxRecDepth 16384

noncomputable section

namespace Cert.KernelIdeal.Hand

open Idealize.ShloMosaic Idealize.ShloMosaic.TcCoe Idealize.ShloMosaic.Pointwise Cert.KernelIdeal.Gen Cert.Math
open Idealize.ShloMosaic.Pipeline (Dat)

variable (V : (c : Dev nD) → (b : Ref sig .tc) → Buf (Elt Ideal) ((c : Thread nD τ).loc b))

theorem idx1_0 : ∀ t : Fin grid1.N, win1_0.index t 0 = t.val / 98 ∧ win1_0.index t 1 = t.val % 98 ∧ win1_0.index t 2 = 0 := by decide +kernel
theorem idx1_1 : ∀ t : Fin grid1.N, win1_1.index t 0 = t.val / 98 ∧ win1_1.index t 1 = (t.val % 98 * 8 + 783) % 784 ∧ win1_1.index t 2 = 0 := by decide +kernel
theorem idx1_2 : ∀ t : Fin grid1.N, win1_2.index t 0 = t.val / 98 ∧ win1_2.index t 1 = (t.val % 98 * 8 + 8) % 784 ∧ win1_2.index t 2 = 0 := by decide +kernel
theorem idx1_3 : ∀ t : Fin grid1.N, win1_3.index t 0 = t.val / 98 ∧ win1_3.index t 1 = t.val % 98 ∧ win1_3.index t 2 = 0 := by decide +kernel
theorem idx1_4 : ∀ t : Fin grid1.N, win1_4.index t 0 = t.val / 98 ∧ win1_4.index t 1 = (t.val % 98 * 8 + 783) % 784 ∧ win1_4.index t 2 = 0 := by decide +kernel
theorem idx1_5 : ∀ t : Fin grid1.N, win1_5.index t 0 = t.val / 98 ∧ win1_5.index t 1 = (t.val % 98 * 8 + 8) % 784 ∧ win1_5.index t 2 = 0 := by decide +kernel
theorem idx1_6 : ∀ t : Fin grid1.N, win1_6.index t 0 = t.val / 98 ∧ win1_6.index t 1 = t.val % 98 ∧ win1_6.index t 2 = 0 := by decide +kernel

theorem lt392 (t : Fin grid1.N) : t.val < 392 := t.isLt

/-- The hash of a point of the grid. -/
def hashOf (t : Fin grid1.N) : Fin 4 := ⟨t.val / 98, by have := lt392 t; omega⟩

theorem blk1_0 (c : Dev nD) (t : Fin cfg1.N) (u : Fin 512) (d : Fin 96) :
    iblk1 V c 0 t (ix3 0 u d) = V c main_v32 (ix3 (hashOf t) ⟨t.val % 98 * 512 + u, by omega⟩ d) := by
  show V c main_v32 ((win1_0.rect t).emb (ix3 0 u d)) = _
  refine congrArg _ (funext fun a => Fin.ext ?_)
  match a with
  | ⟨0, _⟩ => rw [Pipeline.Window.rect_emb_val win1_0 t (ix3 0 u d) _ rfl]; show win1_0.index t 0 * 1 + 0 = t.val / 98; rw [(idx1_0 t).1]; omega
  | ⟨1, _⟩ => rw [Pipeline.Window.rect_emb_val win1_0 t (ix3 0 u d) _ rfl]; show win1_0.index t 1 * _ + _ = _; rw [(idx1_0 t).2.1]; rfl
  | ⟨2, _⟩ => exact Pipeline.Window.rect_emb_val_of_index_zero _ t _ (idx1_0 t).2.2 _

theorem blk1_1 (c : Dev nD) (t : Fin cfg1.N) (u : Fin 64) (d : Fin 96) :
    iblk1 V c 1 t (ix3 0 u d) = V c main_v32 (ix3 (hashOf t) ⟨(t.val % 98 * 8 + 783) % 784 * 64 + u, by omega⟩ d) := by
  show V c main_v32 ((win1_1.rect t).emb (ix3 0 u d)) = _
  refine congrArg _ (funext fun a => Fin.ext ?_)
  match a with
  | ⟨0, _⟩ => rw [Pipeline.Window.rect_emb_val win1_1 t (ix3 0 u d) _ rfl]; show win1_1.index t 0 * 1 + 0 = t.val / 98; rw [(idx1_1 t).1]; omega
  | ⟨1, _⟩ => rw [Pipeline.Window.rect_emb_val win1_1 t (ix3 0 u d) _ rfl]; show win1_1.index t 1 * _ + _ = _; rw [(idx1_1 t).2.1]; rfl
  | ⟨2, _⟩ => exact Pipeline.Window.rect_emb_val_of_index_zero _ t _ (idx1_1 t).2.2 _

theorem blk1_2 (c : Dev nD) (t : Fin cfg1.N) (u : Fin 64) (d : Fin 96) :
    iblk1 V c 2 t (ix3 0 u d) = V c main_v32 (ix3 (hashOf t) ⟨(t.val % 98 * 8 + 8) % 784 * 64 + u, by omega⟩ d) := by
  show V c main_v32 ((win1_2.rect t).emb (ix3 0 u d)) = _
  refine congrArg _ (funext fun a => Fin.ext ?_)
  match a with
  | ⟨0, _⟩ => rw [Pipeline.Window.rect_emb_val win1_2 t (ix3 0 u d) _ rfl]; show win1_2.index t 0 * 1 + 0 = t.val / 98; rw [(idx1_2 t).1]; omega
  | ⟨1, _⟩ => rw [Pipeline.Window.rect_emb_val win1_2 t (ix3 0 u d) _ rfl]; show win1_2.index t 1 * _ + _ = _; rw [(idx1_2 t).2.1]; rfl
  | ⟨2, _⟩ => exact Pipeline.Window.rect_emb_val_of_index_zero _ t _ (idx1_2 t).2.2 _

theorem blk1_3 (c : Dev nD) (t : Fin cfg1.N) (u : Fin 512) (d : Fin 384) :
    iblk1 V c 3 t (ix3 0 u d) = V c main_v34 (ix3 (hashOf t) ⟨t.val % 98 * 512 + u, by omega⟩ d) := by
  show V c main_v34 ((win1_3.rect t).emb (ix3 0 u d)) = _
  refine congrArg _ (funext fun a => Fin.ext ?_)
  match a with
  | ⟨0, _⟩ => rw [Pipeline.Window.rect_emb_val win1_3 t (ix3 0 u d) _ rfl]; show win1_3.index t 0 * 1 + 0 = t.val / 98; rw [(idx1_3 t).1]; omega
  | ⟨1, _⟩ => rw [Pipeline.Window.rect_emb_val win1_3 t (ix3 0 u d) _ rfl]; show win1_3.index t 1 * _ + _ = _; rw [(idx1_3 t).2.1]; rfl
  | ⟨2, _⟩ => exact Pipeline.Window.rect_emb_val_of_index_zero _ t _ (idx1_3 t).2.2 _

theorem blk1_4 (c : Dev nD) (t : Fin cfg1.N) (u : Fin 64) (d : Fin 384) :
    iblk1 V c 4 t (ix3 0 u d) = V c main_v34 (ix3 (hashOf t) ⟨(t.val % 98 * 8 + 783) % 784 * 64 + u, by omega⟩ d) := by
  show V c main_v34 ((win1_4.rect t).emb (ix3 0 u d)) = _
  refine congrArg _ (funext fun a => Fin.ext ?_)
  match a with
  | ⟨0, _⟩ => rw [Pipeline.Window.rect_emb_val win1_4 t (ix3 0 u d) _ rfl]; show win1_4.index t 0 * 1 + 0 = t.val / 98; rw [(idx1_4 t).1]; omega
  | ⟨1, _⟩ => rw [Pipeline.Window.rect_emb_val win1_4 t (ix3 0 u d) _ rfl]; show win1_4.index t 1 * _ + _ = _; rw [(idx1_4 t).2.1]; rfl
  | ⟨2, _⟩ => exact Pipeline.Window.rect_emb_val_of_index_zero _ t _ (idx1_4 t).2.2 _

theorem blk1_5 (c : Dev nD) (t : Fin cfg1.N) (u : Fin 64) (d : Fin 384) :
    iblk1 V c 5 t (ix3 0 u d) = V c main_v34 (ix3 (hashOf t) ⟨(t.val % 98 * 8 + 8) % 784 * 64 + u, by omega⟩ d) := by
  show V c main_v34 ((win1_5.rect t).emb (ix3 0 u d)) = _
  refine congrArg _ (funext fun a => Fin.ext ?_)
  match a with
  | ⟨0, _⟩ => rw [Pipeline.Window.rect_emb_val win1_5 t (ix3 0 u d) _ rfl]; show win1_5.index t 0 * 1 + 0 = t.val / 98; rw [(idx1_5 t).1]; omega
  | ⟨1, _⟩ => rw [Pipeline.Window.rect_emb_val win1_5 t (ix3 0 u d) _ rfl]; show win1_5.index t 1 * _ + _ = _; rw [(idx1_5 t).2.1]; rfl
  | ⟨2, _⟩ => exact Pipeline.Window.rect_emb_val_of_index_zero _ t _ (idx1_5 t).2.2 _

theorem rows1_6 (t : Fin cfg1.N) (u : Fin 512) (d : Fin 384) :
    (win1_6.rect t).emb (ix3 0 u d) = (ix3 (hashOf t) ⟨t.val % 98 * 512 + u, by omega⟩ d : S4x50176x384.Idx) := by
  refine funext fun a => Fin.ext ?_
  match a with
  | ⟨0, _⟩ => rw [Pipeline.Window.rect_emb_val win1_6 t (ix3 0 u d) _ rfl]; show win1_6.index t 0 * 1 + 0 = t.val / 98; rw [(idx1_6 t).1]; omega
  | ⟨1, _⟩ => rw [Pipeline.Window.rect_emb_val win1_6 t (ix3 0 u d) _ rfl]; show win1_6.index t 1 * _ + _ = _; rw [(idx1_6 t).2.1]; rfl
  | ⟨2, _⟩ => exact Pipeline.Window.rect_emb_val_of_index_zero _ t _ (idx1_6 t).2.2 _

theorem flushA (X : Fin 4 → ℕ → Fin 96 → EReal) (Y : Fin 4 → ℕ → Fin 384 → EReal) (c : Dev nD)
    (hX : ∀ s r d, V c main_v32 (ix3 s r d) = X s r d) (hY : ∀ s r d, V c main_v34 (ix3 s r d) = Y s r d) (t : Fin cfg1.N) (y : S1x512x384.Idx) :
    out1_6 (iblk1 V c 0 t) (iblk1 V c 1 t) (iblk1 V c 2 t) (iblk1 V c 3 t) (iblk1 V c 4 t) (iblk1 V c 5 t) y
      = (fun i => attnRow X Y (i 0) (i 1) (i 2) : S4x50176x384.Idx → EReal) ((win1_6.rect t).emb y) := by
  have hb : t.val % 98 < 98 := Nat.mod_lt _ (by omega)
  rw [block_attn X Y (hashOf t) (t.val % 98) hb _ _ _ _ _ _
    (fun u d => (blk1_0 V c t u d).trans (hX _ _ _)) (fun u d => (blk1_1 V c t u d).trans (hX _ _ _)) (fun u d => (blk1_2 V c t u d).trans (hX _ _ _))
    (fun u d => (blk1_3 V c t u d).trans (hY _ _ _)) (fun u d => (blk1_4 V c t u d).trans (hY _ _ _)) (fun u d => (blk1_5 V c t u d).trans (hY _ _ _))]
  obtain ⟨z, u, d, rfl⟩ : ∃ (z : Fin 1) (u : Fin 512) (d : Fin 384), y = ix3 z u d := ⟨y 0, y 1, y 2, eq_ix3 y⟩
  obtain rfl : z = 0 := Subsingleton.elim _ _
  rw [rows1_6 t]
  rfl

/-- The attention array: every row's attention over its chunk and the two beside it. -/
theorem arrA (X : Fin 4 → ℕ → Fin 96 → EReal) (Y : Fin 4 → ℕ → Fin 384 → EReal) (c : Dev nD)
    (hX : ∀ s r d, V c main_v32 (ix3 s r d) = X s r d) (hY : ∀ s r d, V c main_v34 (ix3 s r d) = Y s r d) :
    (dat1 V c).arrAt 6 cfg1.N = (fun i => attnRow X Y (i 0) (i 1) (i 2) : S4x50176x384.Idx → EReal) := by
  refine (dat1 V c).arrAt_eq_of_cover 6 _ (fun t _ => ?_) fun i => ?_
  · show (cfg1.win 6).cut (grid1.coords t) ((dat1 V c).after 6 t) = _
    rw [after1_6]
    exact funext (flushA V X Y c hX hY t)
  · have h0 : (i 0 : Nat) < 4 := (i 0).isLt
    have h1 : (i 1 : Nat) < 50176 := (i 1).isLt
    have h2 : (i 2 : Nat) < 384 := (i 2).isLt
    have ht : (i 0 : Nat) * 98 + (i 1 : Nat) / 512 < cfg1.N := by show _ < 392; omega
    refine ⟨⟨(i 0 : Nat) * 98 + (i 1 : Nat) / 512, ht⟩, flush1_6 _, ?_⟩
    show i ∈ ((View.whole main_v35).slice (win1_6.rect ⟨_, ht⟩)).set
    rw [View.set_slice_whole, Rect.mem_set_unit]
    intro a
    match a with
    | ⟨0, _⟩ =>
      show win1_6.index _ 0 * 1 ≤ (i 0 : Nat) ∧ (i 0 : Nat) < win1_6.index _ 0 * 1 + 1
      rw [(idx1_6 _).1]; dsimp only; omega
    | ⟨1, _⟩ =>
      show win1_6.index _ 1 * 512 ≤ (i 1 : Nat) ∧ (i 1 : Nat) < win1_6.index _ 1 * 512 + 512
      rw [(idx1_6 _).2.1]; dsimp only; omega
    | ⟨2, _⟩ =>
      show win1_6.index _ 2 * 384 ≤ (i 2 : Nat) ∧ (i 2 : Nat) < win1_6.index _ 2 * 384 + 384
      rw [(idx1_6 _).2.2]; omega

end Cert.KernelIdeal.Hand

end
-- ==== Proof.OutProj.lean ====
module

public import proofs.«01_k».proof.Proof.Gen.KernelIdeal.Frame
public import Idealize.ShloMosaic.Lib.Pointwise
public import Idealize.ShloMosaic.Lib.Pipeline.Value

@[expose] public section

set_option maxRecDepth 16384

noncomputable section

namespace Cert.KernelIdeal.Hand

open Idealize.ShloMosaic Idealize.ShloMosaic.TcCoe Idealize.ShloMosaic.Pointwise Cert.KernelIdeal.Gen
open Idealize.ShloMosaic.Pipeline (Dat)

theorem hz2' : (![0, 0] : Fin 2 → ℕ) = fun _ => 0 := by decide

/-- What a point computes of the output projection: the product, the bias and the residual. -/
theorem blockO (x0 : Vec Ideal S512x1536 .f32) (x1 : Vec Ideal S1536x384 .f32) (x2 : Vec Ideal S1x384 .f32) (x3 : Vec Ideal S512x384 .f32) (p : Fin 512) (o : Fin 384) :
    out2_4 x0 x1 x2 x3 (ix2 p o) = (∑ k : Fin 1536, x0 (ix2 p k) * x1 (ix2 k o)) + x2 (ix2 0 o) + x3 (ix2 p o) := by
  unfold out2_4
  rw [View.canon_unit_zero hz2', View.ld_unit_zero hz2', View.ld_unit_zero hz2', View.ld_unit_zero hz2', View.ld_unit_zero hz2']
  pointwise [k2_pay1]

variable (V : (c : Dev nD) → (b : Ref sig .tc) → Buf (Elt Ideal) ((c : Thread nD τ).loc b))

theorem idx2_0 : ∀ t : Fin grid2.N, win2_0.index t 0 = t.val ∧ win2_0.index t 1 = 0 := by decide +kernel
theorem idx2_1 : ∀ t : Fin grid2.N, win2_1.index t 0 = 0 ∧ win2_1.index t 1 = 0 := by decide +kernel
theorem idx2_2 : ∀ t : Fin grid2.N, win2_2.index t 0 = 0 ∧ win2_2.index t 1 = 0 := by decide +kernel
theorem idx2_3 : ∀ t : Fin grid2.N, win2_3.index t 0 = t.val ∧ win2_3.index t 1 = 0 := by decide +kernel
theorem idx2_4 : ∀ t : Fin grid2.N, win2_4.index t 0 = t.val ∧ win2_4.index t 1 = 0 := by decide +kernel

theorem lt98 (t : Fin grid2.N) : t.val < 98 := t.isLt

theorem blk2_0 (c : Dev nD) (t : Fin cfg2.N) (p : Fin 512) (k : Fin 1536) :
    iblk2 V c 0 t (ix2 p k) = V c main_v41 (ix2 ⟨t.val * 512 + p, by have := lt98 t; omega⟩ k) := by
  show V c main_v41 ((win2_0.rect t).emb (ix2 p k)) = _
  refine congrArg _ (funext fun a => Fin.ext ?_)
  match a with
  | ⟨0, _⟩ => rw [Pipeline.Window.rect_emb_val win2_0 t (ix2 p k) _ rfl]; show win2_0.index t 0 * _ + _ = _; rw [(idx2_0 t).1]; rfl
  | ⟨1, _⟩ => exact Pipeline.Window.rect_emb_val_of_index_zero _ t _ (idx2_0 t).2 _

theorem blk2_1 (c : Dev nD) (t : Fin cfg2.N) : iblk2 V c 1 t = V c main_v6 := by
  funext y
  show V c main_v6 ((win2_1.rect t).emb y) = _
  refine congrArg _ (funext fun a => Fin.ext ?_)
  match a with
  | ⟨0, _⟩ => exact Pipeline.Window.rect_emb_val_of_index_zero _ t _ (idx2_1 t).1 y
  | ⟨1, _⟩ => exact Pipeline.Window.rect_emb_val_of_index_zero _ t _ (idx2_1 t).2 y

theorem blk2_2 (c : Dev nD) (t : Fin cfg2.N) : iblk2 V c 2 t = V c main_v44 := by
  funext y
  show V c main_v44 ((win2_2.rect t).emb y) = _
  refine congrArg _ (funext fun a => Fin.ext ?_)
  match a with
  | ⟨0, _⟩ => exact Pipeline.Window.rect_emb_val_of_index_zero _ t _ (idx2_2 t).1 y
  | ⟨1, _⟩ => exact Pipeline.Window.rect_emb_val_of_index_zero _ t _ (idx2_2 t).2 y

theorem blk2_3 (c : Dev nD) (t : Fin cfg2.N) (p : Fin 512) (o : Fin 384) :
    iblk2 V c 3 t (ix2 p o) = V c main_v43 (ix2 ⟨t.val * 512 + p, by have := lt98 t; omega⟩ o) := by
  show V c main_v43 ((win2_3.rect t).emb (ix2 p o)) = _
  refine congrArg _ (funext fun a => Fin.ext ?_)
  match a with
  | ⟨0, _⟩ => rw [Pipeline.Window.rect_emb_val win2_3 t (ix2 p o) _ rfl]; show win2_3.index t 0 * _ + _ = _; rw [(idx2_3 t).1]; rfl
  | ⟨1, _⟩ => exact Pipeline.Window.rect_emb_val_of_index_zero _ t _ (idx2_3 t).2 _

theorem rows2_4 (t : Fin cfg2.N) (p : Fin 512) (o : Fin 384) :
    (win2_4.rect t).emb (ix2 p o) = (ix2 ⟨t.val * 512 + p, by have := lt98 t; omega⟩ o : S50176x384.Idx) := by
  refine funext fun a => Fin.ext ?_
  match a with
  | ⟨0, _⟩ => rw [Pipeline.Window.rect_emb_val win2_4 t (ix2 p o) _ rfl]; show win2_4.index t 0 * _ + _ = _; rw [(idx2_4 t).1]; rfl
  | ⟨1, _⟩ => exact Pipeline.Window.rect_emb_val_of_index_zero _ t _ (idx2_4 t).2 _

/-- The projection of a pixel: the product of its mixed row with the weights, the bias and the residual. -/
def projAt (A : S50176x1536.Idx → EReal) (W : S1536x384.Idx → EReal) (B : S1x384.Idx → EReal) (R : S50176x384.Idx → EReal) (p : Fin 50176) (o : Fin 384) : EReal :=
  (∑ k : Fin 1536, A (ix2 p k) * W (ix2 k o)) + B (ix2 0 o) + R (ix2 p o)

theorem flushO (c : Dev nD) (t : Fin cfg2.N) (y : S512x384.Idx) :
    out2_4 (iblk2 V c 0 t) (iblk2 V c 1 t) (iblk2 V c 2 t) (iblk2 V c 3 t) y
      = (fun i => projAt (V c main_v41) (V c main_v6) (V c main_v44) (V c main_v43) (i 0) (i 1) : S50176x384.Idx → EReal) ((win2_4.rect t).emb y) := by
  obtain ⟨p, o, rfl⟩ : ∃ (p : Fin 512) (o : Fin 384), y = ix2 p o := ⟨y 0, y 1, eq_ix2 y⟩
  rw [blockO, rows2_4 t, blk2_1, blk2_2, blk2_3]
  unfold projAt
  simp only [blk2_0, ix2_0, ix2_1]

/-- The projected array. -/
theorem arrO (c : Dev nD) : (dat2 V c).arrAt 4 cfg2.N
    = (fun i => projAt (V c main_v41) (V c main_v6) (V c main_v44) (V c main_v43) (i 0) (i 1) : S50176x384.Idx → EReal) := by
  refine (dat2 V c).arrAt_eq_of_cover 4 _ (fun t _ => ?_) fun i => ?_
  · show (cfg2.win 4).cut (grid2.coords t) ((dat2 V c).after 4 t) = _
    rw [after2_4]
    exact funext (flushO V c t)
  · have h0 : (i 0 : Nat) < 50176 := (i 0).isLt
    have h1 : (i 1 : Nat) < 384 := (i 1).isLt
    have ht : (i 0 : Nat) / 512 < cfg2.N := by show _ < 98; omega
    refine ⟨⟨(i 0 : Nat) / 512, ht⟩, flush2_4 _, ?_⟩
    show i ∈ ((View.whole main_v45).slice (win2_4.rect ⟨_, ht⟩)).set
    rw [View.set_slice_whole, Rect.mem_set_unit]
    intro a
    match a with
    | ⟨0, _⟩ =>
      show win2_4.index _ 0 * 512 ≤ (i 0 : Nat) ∧ (i 0 : Nat) < win2_4.index _ 0 * 512 + 512
      rw [(idx2_4 _).1]; dsimp only; omega
    | ⟨1, _⟩ =>
      show win2_4.index _ 1 * 384 ≤ (i 1 : Nat) ∧ (i 1 : Nat) < win2_4.index _ 1 * 384 + 384
      rw [(idx2_4 _).2]; omega

end Cert.KernelIdeal.Hand

end
-- ==== Proof.KOut.lean ====
module

public import proofs.«01_k».proof.Proof.KIdx
public import proofs.«01_k».proof.Proof.AttnGrid
public import proofs.«01_k».proof.Proof.OutProj

@[expose] public section

set_option maxRecDepth 16384

noncomputable section

namespace Cert.KernelIdeal.Hand

open Idealize.ShloMosaic Idealize.ShloMosaic.TcCoe Idealize.ShloMosaic.Pointwise Idealize.ShloMosaic.StableHlo Cert.KernelIdeal.Gen Cert.Math

variable (m : (ℓ : Loc nD τ sig) → Buf (Elt Ideal) ℓ) (ρ : Dev nD → PrngReg) (c : Dev nD)

theorem keep_v24_21 : W21 m ρ c (Proc.devRef .tc main_v24) = W9 m ρ c (Proc.devRef .tc main_v24) :=
  (W21_of m ρ c main_v24 (by decide)).trans <|
  (W20_of m ρ c main_v24 (by decide)).trans <|
  (W19_of m ρ c main_v24 (by decide)).trans <|
  (W18_of m ρ c main_v24 (by decide)).trans <|
  (W17_of m ρ c main_v24 (by decide)).trans <|
  (W16_of m ρ c main_v24 (by decide)).trans <|
  (W15_of m ρ c main_v24 (by decide)).trans <|
  (W14_of m ρ c main_v24 (by decide)).trans <|
  (W13_of m ρ c main_v24 (by decide)).trans <|
  (W12_of m ρ c main_v24 (by decide)).trans <|
  (W11_of m ρ c main_v24 (by decide)).trans <|
  W10_of m ρ c main_v24 (by decide)

theorem keep_v0_23 : W23 m ρ c (Proc.devRef .tc main_v0) = W1 m ρ c (Proc.devRef .tc main_v0) :=
  (W23_of m ρ c main_v0 (by decide)).trans <|
  (W22_of m ρ c main_v0 (by decide)).trans <|
  (W21_of m ρ c main_v0 (by decide)).trans <|
  (W20_of m ρ c main_v0 (by decide)).trans <|
  (W19_of m ρ c main_v0 (by decide)).trans <|
  (W18_of m ρ c main_v0 (by decide)).trans <|
  (W17_of m ρ c main_v0 (by decide)).trans <|
  (W16_of m ρ c main_v0 (by decide)).trans <|
  (W15_of m ρ c main_v0 (by decide)).trans <|
  (W14_of m ρ c main_v0 (by decide)).trans <|
  (W13_of m ρ c main_v0 (by decide)).trans <|
  (W12_of m ρ c main_v0 (by decide)).trans <|
  (W11_of m ρ c main_v0 (by decide)).trans <|
  (W10_of m ρ c main_v0 (by decide)).trans <|
  (W9_of m ρ c main_v0 (by decide)).trans <|
  (W8_of m ρ c main_v0 (by decide)).trans <|
  (W7_of m ρ c main_v0 (by decide)).trans <|
  (W6_of m ρ c main_v0 (by decide)).trans <|
  (W5_of m ρ c main_v0 (by decide)).trans <|
  (W4_of m ρ c main_v0 (by decide)).trans <|
  (W3_of m ρ c main_v0 (by decide)).trans <|
  W2_of m ρ c main_v0 (by decide)

theorem keep_v6_24 : W24 m ρ c (Proc.devRef .tc main_v6) = W1 m ρ c (Proc.devRef .tc main_v6) :=
  (W24_of m ρ c main_v6 (by decide)).trans <|
  (W23_of m ρ c main_v6 (by decide)).trans <|
  (W22_of m ρ c main_v6 (by decide)).trans <|
  (W21_of m ρ c main_v6 (by decide)).trans <|
  (W20_of m ρ c main_v6 (by decide)).trans <|
  (W19_of m ρ c main_v6 (by decide)).trans <|
  (W18_of m ρ c main_v6 (by decide)).trans <|
  (W17_of m ρ c main_v6 (by decide)).trans <|
  (W16_of m ρ c main_v6 (by decide)).trans <|
  (W15_of m ρ c main_v6 (by decide)).trans <|
  (W14_of m ρ c main_v6 (by decide)).trans <|
  (W13_of m ρ c main_v6 (by decide)).trans <|
  (W12_of m ρ c main_v6 (by decide)).trans <|
  (W11_of m ρ c main_v6 (by decide)).trans <|
  (W10_of m ρ c main_v6 (by decide)).trans <|
  (W9_of m ρ c main_v6 (by decide)).trans <|
  (W8_of m ρ c main_v6 (by decide)).trans <|
  (W7_of m ρ c main_v6 (by decide)).trans <|
  (W6_of m ρ c main_v6 (by decide)).trans <|
  (W5_of m ρ c main_v6 (by decide)).trans <|
  (W4_of m ρ c main_v6 (by decide)).trans <|
  (W3_of m ρ c main_v6 (by decide)).trans <|
  W2_of m ρ c main_v6 (by decide)

theorem attention_at (s : Fin 4) (r : Fin 50176) (d : Fin 384) :
    W21 m ρ c (Proc.devRef .tc main_v35) (ix3 s r d) = attnRow (rowsX (argI m c) (argH m c) (argX m c)) (rowsY (argI m c) (argH m c) (argY m c)) s r.val d :=
  (congrFun (W21_arr m ρ c 6) (ix3 s r d)).trans
    (congrFun (arrA (V20 m ρ) (rowsX (argI m c) (argH m c) (argX m c)) (rowsY (argI m c) (argH m c) (argY m c)) c (rows_x m ρ c) (rows_y m ρ c)) (ix3 s r d))

/-- The place asked for by a row of the regrouped result. -/
def askedPlace (n : Fin 200704) : Fin 200704 := place (argH m c) ⟨n.val % 4 * 50176 + n.val / 4, by omega⟩

theorem asked_at (n : Fin 200704) : W22 m ρ c (Proc.devRef .tc main_v38) (ix1 n) = BitVec.ofNat 32 (askedPlace m c n).val :=
  (g_v38 (W21 m ρ c) n).trans ((congrFun (keep_v24_21 m ρ c) _).trans (place_at m ρ c _))

theorem asked_split (p : Fin 50176) (k : Fin 1536) :
    askedPlace m c ⟨p.val * 4 + k.val / 384, by omega⟩ = place (argH m c) ⟨k.val / 384 * 50176 + p.val, by omega⟩ := by
  unfold askedPlace
  refine congrArg _ (Fin.ext ?_)
  simp only []
  omega

theorem mixed_at (p : Fin 50176) (k : Fin 1536) :
    W24 m ρ c (Proc.devRef .tc main_v41) (ix2 p k) = mixed (argI m c) (argH m c) (argX m c) (argY m c) p k := by
  refine (g2_v41 (W23 m ρ c) p k).trans ?_
  refine (congrFun (takeBack_read (W22 m ρ c)) _).trans ?_
  refine (takeBack_apply _ _ (askedPlace m c) (asked_at m ρ c) _ _).trans ?_
  refine (g_v39 (W21 m ρ c) _ _).trans ?_
  refine (attention_at m ρ c _ _ _).trans ?_
  rw [asked_split]
  rfl

theorem image_at (h w : Fin 224) (o : Fin 384) :
    W24 m ρ c (Proc.devRef .tc main_v43) (ix2 ⟨h.val * 224 + w.val, by omega⟩ o) = argI m c (ix4 0 o h w) :=
  (g2_v43 (W23 m ρ c) h w o).trans ((congrFun (keep_v0_23 m ρ c) _).trans (h0_v0 (W0 m ρ c) o h w))

theorem bias_at (o : Fin 384) : W24 m ρ c (Proc.devRef .tc main_v44) (ix2 0 o) = argB m c (ix1 o) :=
  (g2_v44 (W23 m ρ c) o).trans (congrFun (W23_args m ρ c main_arg5 (by decide)) (ix1 o))

theorem weight_o (k : Fin 1536) (o : Fin 384) : W24 m ρ c (Proc.devRef .tc main_v6) (ix2 k o) = argO m c (ix4 o k 0 0) :=
  (congrFun (keep_v6_24 m ρ c) _).trans (h0_v6 (W0 m ρ c) k o)

/-- The kernel's result, element by element. -/
theorem result_apply (o : Fin 384) (h w : Fin 224) :
    W26 m ρ c (Proc.devRef .tc main_v47) (ix4 0 o h w) = outAt (argI m c) (argH m c) (argX m c) (argY m c) (argO m c) (argB m c) o h w := by
  refine (f_v47 (W25 m ρ c) o h w).trans ?_
  refine (congrFun (W25_arr m ρ c 4) _).trans ?_
  refine (congrFun (arrO (V24 m ρ) c) _).trans ?_
  show projAt (V24 m ρ c main_v41) (V24 m ρ c main_v6) (V24 m ρ c main_v44) (V24 m ρ c main_v43) ⟨h.val * 224 + w.val, by omega⟩ o = _
  unfold projAt outAt
  exact congrArg₂ (fun a b : EReal => a + b)
    (congrArg₂ (fun a b : EReal => a + b)
      (Finset.sum_congr rfl fun k _ => congrArg₂ (fun a b : EReal => a * b) (mixed_at m ρ c _ k) (weight_o m ρ c k o))
      (bias_at m ρ c o))
    (image_at m ρ c h w o)

end Cert.KernelIdeal.Hand

end
-- ==== Proof.RPad.lean ====
module

public import proofs.«01_k».proof.Proof.Spec
public import proofs.«01_k».proof.Proof.Gen.ReferenceIdeal.Run

@[expose] public section

set_option maxRecDepth 16384

noncomputable section

namespace Cert.ReferenceIdeal.Hand

open Idealize.ShloMosaic Idealize.ShloMosaic.Pointwise Cert.ReferenceIdeal.Gen Cert.ReferenceIdeal.Value Cert.Math

variable (V0 : Valuation τ sig (Elt Ideal))

/-- The image argument. -/
abbrev img : Image := V0 (Proc.devRef .tc main_arg0)

theorem pad_top (c : Fin 384) (h : Fin 225) (w : Fin 224) :
    res_main_call0_v3 V0 (ix4 0 c h w) = img V0 (ix4 0 c (mirror h) w) := by
  have := h.isLt
  pointwise [res_main_call0_v3]
  unfold mirror
  split <;> rename_i hh
  · refine congrArg _ ?_; congr 1
  · refine congrArg _ ?_; congr 1; apply Fin.ext; simp only [hh, if_false]; rw [if_pos (by omega)]

theorem pad_rows (c : Fin 384) (h : Fin 226) (w : Fin 224) :
    res_main_call0_v7 V0 (ix4 0 c h w) = img V0 (ix4 0 c (mirror h) w) := by
  have := h.isLt
  unfold res_main_call0_v7
  pointwise
  split <;> rename_i hh
  · exact pad_top V0 c ⟨h, hh⟩ w
  · refine (pad_top V0 c _ w).trans ?_
    refine congrArg _ ?_; congr 1; apply Fin.ext; unfold mirror; simp only []; split_ifs <;> omega

theorem pad_left (c : Fin 384) (h : Fin 226) (w : Fin 225) :
    res_main_call0_v11 V0 (ix4 0 c h w) = img V0 (ix4 0 c (mirror h) (mirror w)) := by
  have := w.isLt
  unfold res_main_call0_v11
  pointwise
  split <;> rename_i hh
  · refine (pad_rows V0 c h _).trans ?_
    refine congrArg _ ?_; congr 1; apply Fin.ext; unfold mirror; simp only [hh, if_true]; rfl
  · refine (pad_rows V0 c h _).trans ?_
    refine congrArg _ ?_; congr 1; apply Fin.ext; unfold mirror; simp only []; split_ifs <;> omega

/-- The reflected image, element by element. -/
theorem pad_apply (c : Fin 384) (h w : Fin 226) :
    res_main_v0 V0 (ix4 0 c h w) = padAt (img V0) c h w := by
  have := w.isLt
  unfold res_main_v0 padAt
  pointwise
  split <;> rename_i hh
  · exact pad_left V0 c h ⟨w, hh⟩
  · refine (pad_left V0 c h _).trans ?_
    refine congrArg _ ?_; congr 1; apply Fin.ext; unfold mirror; simp only []; split_ifs <;> omega

end Cert.ReferenceIdeal.Hand

end
-- ==== Proof.RSort.lean ====
module

public import proofs.«01_k».proof.Proof.Spec
public import proofs.«01_k».proof.Proof.Gen.ReferenceIdeal.Run
public import Idealize.ShloMosaic.Lib.Routing.Model

@[expose] public section

set_option maxRecDepth 16384

noncomputable section

namespace Cert.ReferenceIdeal.Hand

open Idealize.ShloMosaic Idealize.ShloMosaic.Pointwise Cert.ReferenceIdeal.Gen Cert.ReferenceIdeal.Value Cert.Math

variable (V0 : Valuation τ sig (Elt Ideal))

/-- The hash codes argument. -/
abbrev codes : Codes := V0 (Proc.devRef .tc main_arg1)

theorem keys_apply (n : Fin 200704) : res_main_v70 V0 (ix2 0 n) = keyAt (codes V0) n := by
  have := n.isLt
  unfold keyAt
  pointwise [res_main_v70]
  have e : n.val % 50176 % 224 = n.val % 224 := by omega
  simp only [e]

theorem sorted_apply (n : Fin 200704) : res_main_v71 V0 (ix2 0 n) = BitVec.ofNat 32 (sorted (codes V0) n).val := by
  unfold res_main_v71 res_main_call1_v0 sorted
  refine (argsort_row (n := 200704) (res_main_v70 V0) n).trans ?_
  simp only [keys_apply]

theorem place_apply (n : Fin 200704) :
    (Host.sort2 S1x200704 1 comparator_i32_i32_d1 (res_main_v71 V0) (res_main_call2_v0 V0)).2 (ix2 0 n) = BitVec.ofNat 32 (place (codes V0) n).val := by
  unfold res_main_call2_v0 place
  refine (argsort_row (n := 200704) (res_main_v71 V0) n).trans ?_
  simp only [sorted_apply]

theorem pixel_apply (n : Fin 200704) : res_main_v73 V0 (ix2 0 n) = BitVec.ofNat 32 (pixel (codes V0) n).val := by
  have h := Routing.pyRem_ap bcast_S_S1x200704 (res_main_v71 V0) (constantI S_ 32 50176#32) (ix2 0 n) (a := (sorted (codes V0) n).val) (b := 50176)
    (sorted_apply V0 n) rfl (by have := (sorted (codes V0) n).isLt; omega) (by omega) (by omega)
  rw [pixel_val]
  exact h

end Cert.ReferenceIdeal.Hand

end
-- ==== Proof.RFeat.lean ====
module

public import proofs.«01_k».proof.Proof.RPad
public import proofs.«01_k».proof.Proof.RSort

@[expose] public section

set_option maxRecDepth 16384

noncomputable section

namespace Cert.ReferenceIdeal.Hand

open Idealize.ShloMosaic Idealize.ShloMosaic.Pointwise Cert.ReferenceIdeal.Gen Cert.ReferenceIdeal.Value Cert.Math
open Cert.KernelIdeal.Hand (sum9)

variable (V0 : Valuation τ sig (Elt Ideal))

/-- The weights of the matching convolution. -/
abbrev weightX : WeightX := V0 (Proc.devRef .tc main_arg2)
/-- The weights of the value convolution. -/
abbrev weightY : WeightY := V0 (Proc.devRef .tc main_arg3)

/-- One tap of the matching convolution at a pixel. -/
theorem tap_apply (x : FVec Ideal S1x384x224x224 .f32) (w : FVec Ideal S96x384 .f32) (l : Fin 96) (h k : Fin 224) :
    (transpose S1x96x224x224 [0, 3, 1, 2] (Host.dotGeneral dot_S1x384x224x224_S96x384_S1x224x224x96_1_1_023_0_n_n none x w) transposes_S1x224x224x96_S1x96x224x224_0_3_1_2 : FVec Ideal S1x96x224x224 .f32) (ix4 0 l h k)
      = ∑ c : Fin 384, x (ix4 0 c h k) * w (ix2 l c) := by
  pointwise

theorem convX_apply (l : Fin 96) (h k : Fin 224) (p : Fin 50176) (hh : rowOf p = h) (hk : colOf p = k) :
    res_main_v55 V0 (ix4 0 l h k) = featX (img V0) (weightX V0) p l := by
  subst hh; subst hk
  unfold res_main_v55 featX sum9
  simp only [addf_apply, tap_apply]
  pointwise
  simp only [pad_apply]
  simp only [Nat.add_comm 1, Nat.add_comm 2]

theorem convY_apply (d : Fin 384) (h k : Fin 224) (p : Fin 50176) (hh : rowOf p = h) (hk : colOf p = k) :
    (transpose S1x384x224x224 [0, 3, 1, 2] (Host.dotGeneral (φ₁ := .f32) (φ₂ := .f32) dot_S1x384x224x224_S384x384_S1x224x224x384_1_1_023_0_n_n none (V0 (Proc.devRef .tc main_arg0) : FVec Ideal S1x384x224x224 .f32) (shapeCast _ (V0 (Proc.devRef .tc main_arg3)) shapeCasts_S384x384x1x1_S384x384 : FVec Ideal S384x384 .f32)) transposes_S1x224x224x384_S1x384x224x224_0_3_1_2 : FVec Ideal S1x384x224x224 .f32) (ix4 0 d h k)
      = featY (img V0) (weightY V0) p d := by
  subst hh; subst hk
  unfold featY
  pointwise

/-- The gather index of the matching features: the pixel at the place. -/
theorem index96 (n : Fin 200704) (y : Fin 96) : res_main_call4_v5 V0 (ix3 n y 0) = BitVec.ofNat 32 (pixel (codes V0) n).val := by
  have e : ∀ j, res_main_v75 V0 j = BitVec.ofNat 32 (pixel (codes V0) (j 1).val).val := fun j => by
    rw [← pixel_apply V0 (j 1)]
    pointwise [res_main_v75]
  unfold res_main_call4_v5
  rw [wrap_vec]
  case hz => exact fun _ => rfl
  case hi => intro j; rw [e, BitVec.toNat_ofNat]; have := (pixel (codes V0) (j 1).val).isLt; omega
  pointwise
  rw [e]
  rfl

theorem index384 (n : Fin 200704) (y : Fin 384) : res_main_call5_v5 V0 (ix3 n y 0) = BitVec.ofNat 32 (pixel (codes V0) n).val := by
  have e : ∀ j, res_main_v78 V0 j = BitVec.ofNat 32 (pixel (codes V0) (j 1).val).val := fun j => by
    rw [← pixel_apply V0 (j 1)]
    pointwise [res_main_v78]
  unfold res_main_call5_v5
  rw [wrap_vec]
  case hz => exact fun _ => rfl
  case hi => intro j; rw [e, BitVec.toNat_ofNat]; have := (pixel (codes V0) (j 1).val).isLt; omega
  pointwise
  rw [e]
  rfl

/-- The gather index that undoes the sort. -/
theorem indexBack (n : Fin 200704) (y : Fin 384) : res_main_call8_v5 V0 (ix3 n y 0) = BitVec.ofNat 32 (place (codes V0) n).val := by
  have e : ∀ j, res_main_v122 V0 j = BitVec.ofNat 32 (place (codes V0) (j 1)).val := fun j => by
    rw [← place_apply V0 (j 1)]
    pointwise [res_main_v122]
  unfold res_main_call8_v5
  rw [wrap_vec]
  case hz => exact fun _ => rfl
  case hi => intro j; rw [e, BitVec.toNat_ofNat]; have := (place (codes V0) (j 1)).isLt; omega
  pointwise
  rw [e]
  rfl

/-- A row number of the sorted order, by hash round, chunk and place within the chunk. -/
abbrev rowNo (q : Fin 784) (u : Fin 64) : ℕ := q.val * 64 + u.val

theorem sortedX_apply (s : Fin 4) (q : Fin 784) (u : Fin 64) (l : Fin 96) :
    res_main_v80 V0 (ix5 0 s q u l) = rowsX (img V0) (codes V0) (weightX V0) s (rowNo q u) l := by
  unfold res_main_v80
  rw [take_fill (N := 50176)]
  case hN => omega
  case hlo => exact fun _ => rfl
  case hhi => exact fun _ => rfl
  case hone => exact fun _ => rfl
  case hv =>
    intro (j : (⟨3, ![200704, 96, 1]⟩ : Shape).Idx)
    refine lt_of_eq_of_lt (congrArg BitVec.toNat ((congrArg _ (eq_ix3_unit j)).trans (index96 V0 (j 0) (j 1)))) ?_
    rw [BitVec.toNat_ofNat]
    have := (pixel (codes V0) (j 0).val).isLt
    omega
  have h1 := s.isLt; have h2 := q.isLt; have h3 := u.isLt
  pointwise
  refine (gather_col (R := 50176) (C := 96) (n := 200704) _ _ (res_main_call4_v5 V0) _ _ (pixel (codes V0) (s.val * 50176 + (q.val * 64 + u.val))) (by omega) ?_).trans ?_
  · rw [index96]
    refine congrArg (fun n => BitVec.ofNat 32 (pixel (codes V0) n).val) ?_
    simp only []
    omega
  · pointwise
    unfold rowsX
    exact convX_apply V0 l _ _ _ rfl rfl

theorem sortedY_apply (s : Fin 4) (q : Fin 784) (u : Fin 64) (d : Fin 384) :
    res_main_v81 V0 (ix5 0 s q u d) = rowsY (img V0) (codes V0) (weightY V0) s (rowNo q u) d := by
  unfold res_main_v81
  rw [take_fill (N := 50176)]
  case hN => omega
  case hlo => exact fun _ => rfl
  case hhi => exact fun _ => rfl
  case hone => exact fun _ => rfl
  case hv =>
    intro (j : (⟨3, ![200704, 384, 1]⟩ : Shape).Idx)
    refine lt_of_eq_of_lt (congrArg BitVec.toNat ((congrArg _ (eq_ix3_unit j)).trans (index384 V0 (j 0) (j 1)))) ?_
    rw [BitVec.toNat_ofNat]
    have := (pixel (codes V0) (j 0).val).isLt
    omega
  have h1 := s.isLt; have h2 := q.isLt; have h3 := u.isLt
  generalize hv : (transpose S1x384x224x224 [0, 3, 1, 2] (Host.dotGeneral (φ₁ := .f32) (φ₂ := .f32) dot_S1x384x224x224_S384x384_S1x224x224x384_1_1_023_0_n_n none (V0 (Proc.devRef .tc main_arg0) : FVec Ideal S1x384x224x224 .f32) (shapeCast _ (V0 (Proc.devRef .tc main_arg3)) shapeCasts_S384x384x1x1_S384x384 : FVec Ideal S384x384 .f32)) transposes_S1x224x224x384_S1x384x224x224_0_3_1_2 : FVec Ideal S1x384x224x224 .f32) = v
  pointwise
  refine (gather_col (R := 50176) (C := 384) (n := 200704) _ _ (res_main_call5_v5 V0) _ _ (pixel (codes V0) (s.val * 50176 + (q.val * 64 + u.val))) (by omega) ?_).trans ?_
  · rw [index384]
    refine congrArg (fun n => BitVec.ofNat 32 (pixel (codes V0) n).val) ?_
    simp only []
    omega
  · pointwise
    unfold rowsY
    rw [← hv]
    exact convY_apply V0 d _ _ _ rfl rfl

end Cert.ReferenceIdeal.Hand

end
-- ==== Proof.RRing.lean ====
module

public import proofs.«01_k».proof.Proof.RFeat

@[expose] public section

set_option maxRecDepth 16384

noncomputable section

namespace Cert.ReferenceIdeal.Hand

open Idealize.ShloMosaic Idealize.ShloMosaic.Pointwise Cert.ReferenceIdeal.Gen Cert.ReferenceIdeal.Value Cert.Math
open Cert.KernelIdeal.Hand (pick3)

variable (V0 : Valuation τ sig (Elt Ideal))

/-- The chunk before, in a ring. -/
def before (q : Fin 784) : Fin 784 := ⟨(q.val + 783) % 784, by omega⟩
/-- The chunk after, in a ring. -/
def after' (q : Fin 784) : Fin 784 := ⟨(q.val + 1) % 784, by omega⟩

/-- The chunks moved one place on, by their two slices. -/
theorem back96 (x : FVec Ideal S1x4x784x64x96 .f32) (s : Fin 4) (q : Fin 784) (u : Fin 64) (l : Fin 96) :
    concatenate S1x4x784x64x96 2 [⟨S1x4x1x64x96, (extractStridedSlice S1x4x1x64x96 ![0, 0, 783, 0, 0] x slices_S1x4x784x64x96_S1x4x1x64x96_0_0_783_0_0)⟩, ⟨S1x4x783x64x96, (extractStridedSlice S1x4x783x64x96 ![0, 0, 0, 0, 0] x slices_S1x4x784x64x96_S1x4x783x64x96_0_0_0_0_0)⟩] concatenates_S1x4x1x64x96_S1x4x783x64x96_S1x4x784x64x96_d2 (ix5 0 s q u l) = x (ix5 0 s (before q) u l) := by
  have := q.isLt
  pointwise
  split
  · refine congrArg x (congrArg (fun q => ix5 0 s q u l) (Fin.ext ?_)); show _ = (q.val + 783) % 784; simp only []; omega
  · refine congrArg x (congrArg (fun q => ix5 0 s q u l) (Fin.ext ?_)); show _ = (q.val + 783) % 784; simp only []; omega

theorem fwd96 (x : FVec Ideal S1x4x784x64x96 .f32) (s : Fin 4) (q : Fin 784) (u : Fin 64) (l : Fin 96) :
    concatenate S1x4x784x64x96 2 [⟨S1x4x783x64x96, (extractStridedSlice S1x4x783x64x96 ![0, 0, 1, 0, 0] x slices_S1x4x784x64x96_S1x4x783x64x96_0_0_1_0_0)⟩, ⟨S1x4x1x64x96, (extractStridedSlice S1x4x1x64x96 ![0, 0, 0, 0, 0] x slices_S1x4x784x64x96_S1x4x1x64x96_0_0_0_0_0)⟩] concatenates_S1x4x783x64x96_S1x4x1x64x96_S1x4x784x64x96_d2 (ix5 0 s q u l) = x (ix5 0 s (after' q) u l) := by
  have := q.isLt
  pointwise
  split
  · refine congrArg x (congrArg (fun q => ix5 0 s q u l) (Fin.ext ?_)); show _ = (q.val + 1) % 784; simp only []; omega
  · refine congrArg x (congrArg (fun q => ix5 0 s q u l) (Fin.ext ?_)); show _ = (q.val + 1) % 784; simp only []; omega

theorem three96 (a b c : FVec Ideal S1x4x784x64x96 .f32) (s : Fin 4) (q : Fin 784) (t : Fin 192) (l : Fin 96) :
    concatenate S1x4x784x192x96 3 [⟨S1x4x784x64x96, a⟩, ⟨S1x4x784x64x96, b⟩, ⟨S1x4x784x64x96, c⟩] concatenates_S1x4x784x64x96_S1x4x784x64x96_S1x4x784x64x96_S1x4x784x192x96_d3 (ix5 0 s q t l)
      = pick3 t (fun u => a (ix5 0 s q u l)) (fun u => b (ix5 0 s q u l)) (fun u => c (ix5 0 s q u l)) := by
  unfold pick3
  pointwise

/-- A chunk, the one before and the one after, side by side. -/
theorem ring96 (x : FVec Ideal S1x4x784x64x96 .f32) (s : Fin 4) (q : Fin 784) (t : Fin 192) (l : Fin 96) :
    concatenate S1x4x784x192x96 3 [⟨S1x4x784x64x96, x⟩, ⟨S1x4x784x64x96, (concatenate S1x4x784x64x96 2 [⟨S1x4x1x64x96, (extractStridedSlice S1x4x1x64x96 ![0, 0, 783, 0, 0] x slices_S1x4x784x64x96_S1x4x1x64x96_0_0_783_0_0)⟩, ⟨S1x4x783x64x96, (extractStridedSlice S1x4x783x64x96 ![0, 0, 0, 0, 0] x slices_S1x4x784x64x96_S1x4x783x64x96_0_0_0_0_0)⟩] concatenates_S1x4x1x64x96_S1x4x783x64x96_S1x4x784x64x96_d2)⟩, ⟨S1x4x784x64x96, (concatenate S1x4x784x64x96 2 [⟨S1x4x783x64x96, (extractStridedSlice S1x4x783x64x96 ![0, 0, 1, 0, 0] x slices_S1x4x784x64x96_S1x4x783x64x96_0_0_1_0_0)⟩, ⟨S1x4x1x64x96, (extractStridedSlice S1x4x1x64x96 ![0, 0, 0, 0, 0] x slices_S1x4x784x64x96_S1x4x1x64x96_0_0_0_0_0)⟩] concatenates_S1x4x783x64x96_S1x4x1x64x96_S1x4x784x64x96_d2)⟩] concatenates_S1x4x784x64x96_S1x4x784x64x96_S1x4x784x64x96_S1x4x784x192x96_d3 (ix5 0 s q t l)
      = pick3 t (fun u => x (ix5 0 s q u l)) (fun u => x (ix5 0 s (before q) u l)) (fun u => x (ix5 0 s (after' q) u l)) := by
  refine (three96 _ _ _ s q t l).trans ?_
  unfold pick3
  split_ifs
  · rfl
  · exact back96 x s q _ l
  · exact fwd96 x s q _ l

/-- The chunks moved one place on, by their two slices. -/
theorem back384 (x : FVec Ideal S1x4x784x64x384 .f32) (s : Fin 4) (q : Fin 784) (u : Fin 64) (l : Fin 384) :
    concatenate S1x4x784x64x384 2 [⟨S1x4x1x64x384, (extractStridedSlice S1x4x1x64x384 ![0, 0, 783, 0, 0] x slices_S1x4x784x64x384_S1x4x1x64x384_0_0_783_0_0)⟩, ⟨S1x4x783x64x384, (extractStridedSlice S1x4x783x64x384 ![0, 0, 0, 0, 0] x slices_S1x4x784x64x384_S1x4x783x64x384_0_0_0_0_0)⟩] concatenates_S1x4x1x64x384_S1x4x783x64x384_S1x4x784x64x384_d2 (ix5 0 s q u l) = x (ix5 0 s (before q) u l) := by
  have := q.isLt
  pointwise
  split
  · refine congrArg x (congrArg (fun q => ix5 0 s q u l) (Fin.ext ?_)); show _ = (q.val + 783) % 784; simp only []; omega
  · refine congrArg x (congrArg (fun q => ix5 0 s q u l) (Fin.ext ?_)); show _ = (q.val + 783) % 784; simp only []; omega

theorem fwd384 (x : FVec Ideal S1x4x784x64x384 .f32) (s : Fin 4) (q : Fin 784) (u : Fin 64) (l : Fin 384) :
    concatenate S1x4x784x64x384 2 [⟨S1x4x783x64x384, (extractStridedSlice S1x4x783x64x384 ![0, 0, 1, 0, 0] x slices_S1x4x784x64x384_S1x4x783x64x384_0_0_1_0_0)⟩, ⟨S1x4x1x64x384, (extractStridedSlice S1x4x1x64x384 ![0, 0, 0, 0, 0] x slices_S1x4x784x64x384_S1x4x1x64x384_0_0_0_0_0)⟩] concatenates_S1x4x783x64x384_S1x4x1x64x384_S1x4x784x64x384_d2 (ix5 0 s q u l) = x (ix5 0 s (after' q) u l) := by
  have := q.isLt
  pointwise
  split
  · refine congrArg x (congrArg (fun q => ix5 0 s q u l) (Fin.ext ?_)); show _ = (q.val + 1) % 784; simp only []; omega
  · refine congrArg x (congrArg (fun q => ix5 0 s q u l) (Fin.ext ?_)); show _ = (q.val + 1) % 784; simp only []; omega

theorem three384 (a b c : FVec Ideal S1x4x784x64x384 .f32) (s : Fin 4) (q : Fin 784) (t : Fin 192) (l : Fin 384) :
    concatenate S1x4x784x192x384 3 [⟨S1x4x784x64x384, a⟩, ⟨S1x4x784x64x384, b⟩, ⟨S1x4x784x64x384, c⟩] concatenates_S1x4x784x64x384_S1x4x784x64x384_S1x4x784x64x384_S1x4x784x192x384_d3 (ix5 0 s q t l)
      = pick3 t (fun u => a (ix5 0 s q u l)) (fun u => b (ix5 0 s q u l)) (fun u => c (ix5 0 s q u l)) := by
  unfold pick3
  pointwise

/-- A chunk, the one before and the one after, side by side. -/
theorem ring384 (x : FVec Ideal S1x4x784x64x384 .f32) (s : Fin 4) (q : Fin 784) (t : Fin 192) (l : Fin 384) :
    concatenate S1x4x784x192x384 3 [⟨S1x4x784x64x384, x⟩, ⟨S1x4x784x64x384, (concatenate S1x4x784x64x384 2 [⟨S1x4x1x64x384, (extractStridedSlice S1x4x1x64x384 ![0, 0, 783, 0, 0] x slices_S1x4x784x64x384_S1x4x1x64x384_0_0_783_0_0)⟩, ⟨S1x4x783x64x384, (extractStridedSlice S1x4x783x64x384 ![0, 0, 0, 0, 0] x slices_S1x4x784x64x384_S1x4x783x64x384_0_0_0_0_0)⟩] concatenates_S1x4x1x64x384_S1x4x783x64x384_S1x4x784x64x384_d2)⟩, ⟨S1x4x784x64x384, (concatenate S1x4x784x64x384 2 [⟨S1x4x783x64x384, (extractStridedSlice S1x4x783x64x384 ![0, 0, 1, 0, 0] x slices_S1x4x784x64x384_S1x4x783x64x384_0_0_1_0_0)⟩, ⟨S1x4x1x64x384, (extractStridedSlice S1x4x1x64x384 ![0, 0, 0, 0, 0] x slices_S1x4x784x64x384_S1x4x1x64x384_0_0_0_0_0)⟩] concatenates_S1x4x783x64x384_S1x4x1x64x384_S1x4x784x64x384_d2)⟩] concatenates_S1x4x784x64x384_S1x4x784x64x384_S1x4x784x64x384_S1x4x784x192x384_d3 (ix5 0 s q t l)
      = pick3 t (fun u => x (ix5 0 s q u l)) (fun u => x (ix5 0 s (before q) u l)) (fun u => x (ix5 0 s (after' q) u l)) := by
  refine (three384 _ _ _ s q t l).trans ?_
  unfold pick3
  split_ifs
  · rfl
  · exact back384 x s q _ l
  · exact fwd384 x s q _ l

end Cert.ReferenceIdeal.Hand

end
-- ==== Proof.RScore.lean ====
module

public import proofs.«01_k».proof.Proof.RRing

@[expose] public section

set_option maxRecDepth 16384

noncomputable section

namespace Cert.ReferenceIdeal.Hand

open Idealize.ShloMosaic Idealize.ShloMosaic.Pointwise Cert.ReferenceIdeal.Gen Cert.ReferenceIdeal.Value Cert.Math
open Cert.KernelIdeal.Hand (pick3)

variable (V0 : Valuation τ sig (Elt Ideal))

theorem unit_pure (x : FVec Ideal S1x4x784x64x96 .f32) (s : Fin 4) (q : Fin 784) (u : Fin 64) (l : Fin 96) :
    Host.divf x (broadcastInDim S1x4x784x64x96 ![0, 1, 2, 3, 4] bcast_S1x4x784x64x1_S1x4x784x64x96_0_1_2_3_4 (maximumf (Host.sqrt (broadcastInDim S1x4x784x64x1 ![0, 1, 2, 3] bcast_S1x4x784x64_S1x4x784x64x1_0_1_2_3 (Host.reduceAdd (mulf x x) (constant S_ .f32 0x00000000#32) reducesTo_S1x4x784x64x96_S1x4x784x64_d4 h_S_))) (broadcastInDim S1x4x784x64x1 ![] bcast_S_S1x4x784x64x1 (constant S_ .f32 0x3851B717#32)))) (ix5 0 s q u l)
      = Ideal.div (x (ix5 0 s q u l)) (keyNorm fun c => x (ix5 0 s q u c)) := by
  unfold keyNorm floorNorm
  pointwise

theorem unit_apply (s : Fin 4) (q : Fin 784) (u : Fin 64) (l : Fin 96) :
    res_main_v86 V0 (ix5 0 s q u l) = Ideal.div (res_main_v80 V0 (ix5 0 s q u l)) (keyNorm fun c => res_main_v80 V0 (ix5 0 s q u c)) :=
  unit_pure (res_main_v80 V0) s q u l

/-- The features of the 192 keys of a chunk. -/
def keysOf (s : Fin 4) (q : Fin 784) (t : Fin 192) (l : Fin 96) : EReal :=
  pick3 t (fun u => res_main_v80 V0 (ix5 0 s q u l)) (fun u => res_main_v80 V0 (ix5 0 s (before q) u l)) (fun u => res_main_v80 V0 (ix5 0 s (after' q) u l))

/-- The scores of a query. -/
def scoresOf (s : Fin 4) (q : Fin 784) (u : Fin 64) (t : Fin 192) : EReal :=
  score (fun l => res_main_v80 V0 (ix5 0 s q u l)) (keysOf V0 s q t)

theorem scores_dot (x : FVec Ideal S1x4x784x64x96 .f32) (k : FVec Ideal S1x4x784x192x96 .f32) (s : Fin 4) (q : Fin 784) (u : Fin 64) (t : Fin 192) :
    Host.dotGeneral dot_S1x4x784x64x96_S1x4x784x192x96_S1x4x784x64x192_4_4_3_3_012_012 none x k (ix5 0 s q u t) = ∑ c : Fin 96, x (ix5 0 s q u c) * k (ix5 0 s q t c) := by
  pointwise

theorem scores_pure (y x : FVec Ideal S1x4x784x64x96 .f32) (s : Fin 4) (q : Fin 784) (u : Fin 64) (t : Fin 192) :
    Host.dotGeneral dot_S1x4x784x64x96_S1x4x784x192x96_S1x4x784x64x192_4_4_3_3_012_012 none y (concatenate S1x4x784x192x96 3 [⟨S1x4x784x64x96, x⟩, ⟨S1x4x784x64x96, (concatenate S1x4x784x64x96 2 [⟨S1x4x1x64x96, (extractStridedSlice S1x4x1x64x96 ![0, 0, 783, 0, 0] x slices_S1x4x784x64x96_S1x4x1x64x96_0_0_783_0_0)⟩, ⟨S1x4x783x64x96, (extractStridedSlice S1x4x783x64x96 ![0, 0, 0, 0, 0] x slices_S1x4x784x64x96_S1x4x783x64x96_0_0_0_0_0)⟩] concatenates_S1x4x1x64x96_S1x4x783x64x96_S1x4x784x64x96_d2)⟩, ⟨S1x4x784x64x96, (concatenate S1x4x784x64x96 2 [⟨S1x4x783x64x96, (extractStridedSlice S1x4x783x64x96 ![0, 0, 1, 0, 0] x slices_S1x4x784x64x96_S1x4x783x64x96_0_0_1_0_0)⟩, ⟨S1x4x1x64x96, (extractStridedSlice S1x4x1x64x96 ![0, 0, 0, 0, 0] x slices_S1x4x784x64x96_S1x4x1x64x96_0_0_0_0_0)⟩] concatenates_S1x4x783x64x96_S1x4x1x64x96_S1x4x784x64x96_d2)⟩] concatenates_S1x4x784x64x96_S1x4x784x64x96_S1x4x784x64x96_S1x4x784x192x96_d3 : FVec Ideal S1x4x784x192x96 .f32) (ix5 0 s q u t)
      = ∑ c : Fin 96, y (ix5 0 s q u c) * pick3 t (fun u => x (ix5 0 s q u c)) (fun u => x (ix5 0 s (before q) u c)) (fun u => x (ix5 0 s (after' q) u c)) :=
  (scores_dot y _ s q u t).trans (Finset.sum_congr rfl fun c _ => congrArg _ (ring96 x s q t c))

theorem scores_apply (s : Fin 4) (q : Fin 784) (u : Fin 64) (t : Fin 192) :
    res_main_v101 V0 (ix5 0 s q u t) = scoresOf V0 s q u t := by
  refine (scores_pure (res_main_v80 V0) (res_main_v86 V0) s q u t).trans ?_
  unfold scoresOf score
  refine Finset.sum_congr rfl fun c _ => congrArg _ ?_
  unfold keysOf pick3
  split_ifs <;> exact unit_apply V0 _ _ _ _

end Cert.ReferenceIdeal.Hand

end
-- ==== Proof.RShift.lean ====
module

public import proofs.«01_k».proof.Proof.RScore

@[expose] public section

set_option maxRecDepth 16384

noncomputable section

namespace Cert.ReferenceIdeal.Hand

open Idealize.ShloMosaic Idealize.ShloMosaic.Pointwise Cert.ReferenceIdeal.Gen Cert.ReferenceIdeal.Value Cert.Math
open Cert.KernelIdeal.Hand (pick3)

variable (V0 : Valuation τ sig (Elt Ideal))

theorem max_apply (x : FVec Ideal S1x4x784x64x192 .f32) (s : Fin 4) (q : Fin 784) (u : Fin 64) :
    (broadcastInDim S1x4x784x64x1 ![0, 1, 2, 3] bcast_S1x4x784x64_S1x4x784x64x1_0_1_2_3 (Host.reduce FloatOps.maximumf x (constant S_ .f32 0xFF800000#32) reducesTo_S1x4x784x64x192_S1x4x784x64_d4 h_S_) : FVec Ideal S1x4x784x64x1 .f32) (ix5 0 s q u 0)
      = top fun t => x (ix5 0 s q u t) := by
  unfold top
  pointwise
  rfl

theorem top_apply (s : Fin 4) (q : Fin 784) (u : Fin 64) :
    res_main_v103 V0 (ix5 0 s q u 0) = top (scoresOf V0 s q u) := by
  unfold res_main_v103
  refine (max_apply (res_main_v101 V0) s q u).trans (congrArg top (funext fun t => scores_apply V0 s q u t))

theorem finite_apply (m : FVec Ideal S1x4x784x64x1 .f32) (s : Fin 4) (q : Fin 784) (u : Fin 64) :
    select (cmpf .olt (Host.absf m) (broadcastInDim S1x4x784x64x1 ![] bcast_S_S1x4x784x64x1 (constant S_ .f32 0x7F800000#32))) m (broadcastInDim S1x4x784x64x1 ![] bcast_S_S1x4x784x64x1 (id (constant S_ .f32 0x00000000#32))) (ix5 0 s q u 0)
      = Scalar.select (Ideal.cmp .olt (max (m (ix5 0 s q u 0)) (-(m (ix5 0 s q u 0)))) (Ideal.ofBits .f32 0x7F800000#32)) (m (ix5 0 s q u 0)) (Ideal.ofBits .f32 0x00000000#32) := by
  rfl

theorem inf_bits : Ideal.ofBits .f32 0x7F800000#32 = ⊤ := by
  simp [Ideal.ofBits, Ideal.ieee]

theorem shift_apply (s : Fin 4) (q : Fin 784) (u : Fin 64) :
    res_main_v107 V0 (ix5 0 s q u 0) = shift (scoresOf V0 s q u) := by
  unfold res_main_v107 shift
  refine (finite_apply (res_main_v103 V0) s q u).trans ?_
  rw [top_apply, inf_bits, Ideal.ofBits_zero_f32]

end Cert.ReferenceIdeal.Hand

end
-- ==== Proof.RMix.lean ====
module

public import proofs.«01_k».proof.Proof.RFeat

@[expose] public section

set_option maxRecDepth 16384

noncomputable section

namespace Cert.ReferenceIdeal.Hand

open Idealize.ShloMosaic Idealize.ShloMosaic.Pointwise Cert.ReferenceIdeal.Gen Cert.ReferenceIdeal.Value Cert.Math
open Cert.KernelIdeal.Hand (pick3)

variable (V0 : Valuation τ sig (Elt Ideal))

/-- The exponentials of the scores less the logarithm of their sum. -/
theorem weights_apply (x : FVec Ideal S1x4x784x64x192 .f32) (m : FVec Ideal S1x4x784x64x1 .f32) (f : Fin 4 → Fin 784 → Fin 64 → Fin 192 → EReal)
    (hx : ∀ s q u t, x (ix5 0 s q u t) = f s q u t) (hm : ∀ s q u, m (ix5 0 s q u 0) = shift (f s q u)) (s : Fin 4) (q : Fin 784) (u : Fin 64) (t : Fin 192) :
    Host.exp (subf x (broadcastInDim S1x4x784x64x192 ![0, 1, 2, 3, 4] bcast_S1x4x784x64x1_S1x4x784x64x192_0_1_2_3_4 (addf (Host.log (broadcastInDim S1x4x784x64x1 ![0, 1, 2, 3] bcast_S1x4x784x64_S1x4x784x64x1_0_1_2_3 (Host.reduceAdd (Host.exp (subf x (broadcastInDim S1x4x784x64x192 ![0, 1, 2, 3, 4] bcast_S1x4x784x64x1_S1x4x784x64x192_0_1_2_3_4 m))) (constant S_ .f32 0x00000000#32) reducesTo_S1x4x784x64x192_S1x4x784x64_d4 h_S_))) m))) (ix5 0 s q u t)
      = weightR (f s q u) t := by
  unfold weightR
  pointwise
  simp only [hx, hm]

theorem mix_dot (a : FVec Ideal S1x4x784x64x192 .f32) (y : FVec Ideal S1x4x784x192x384 .f32) (s : Fin 4) (q : Fin 784) (u : Fin 64) (d : Fin 384) :
    Host.dotGeneral dot_S1x4x784x64x192_S1x4x784x192x384_S1x4x784x64x384_4_3_3_4_012_012 none a y (ix5 0 s q u d) = ∑ t : Fin 192, a (ix5 0 s q u t) * y (ix5 0 s q t d) := by
  pointwise

end Cert.ReferenceIdeal.Hand

end
-- ==== Proof.Real.lean ====
module

public import proofs.«01_k».proof.Proof.Spec

@[expose] public section

set_option maxRecDepth 16384

noncomputable section

namespace Cert.Math

open Idealize.ShloMosaic Idealize.ShloMosaic.Pointwise
open Cert.KernelIdeal.Hand (sum9 attnRow attn pick3)

variable (I : Image) (H : Codes) (Wx : WeightX) (Wy : WeightY)

theorem featX_isReal (hI : ∀ i, IsReal (I i)) (hW : ∀ i, IsReal (Wx i)) (p : Fin 50176) (l : Fin 96) : IsReal (featX I Wx p l) := by
  have h : ∀ j : Fin 9, IsReal (∑ c : Fin 384, padAt I c ((rowOf p).val + j.val / 3) ((colOf p).val + j.val % 3) * Wx (ix4 l c ⟨j.val / 3, by omega⟩ ⟨j.val % 3, by omega⟩)) :=
    fun j => IsReal.sum _ fun c _ => (hI _).mul (hW _)
  unfold featX sum9
  exact ((((((((IsReal.zero.add (h 0)).add (h 1)).add (h 2)).add (h 3)).add (h 4)).add (h 5)).add (h 6)).add (h 7)).add (h 8)

/-- The scores of a row against the 192 keys around it. -/
def rowScores (s : Fin 4) (r : ℕ) (t : Fin 192) : EReal :=
  score (rowsX I H Wx s r) fun c => pick3 t (fun u => rowsX I H Wx s (r / 64 * 64 + u) c) (fun u => rowsX I H Wx s ((r / 64 + 783) % 784 * 64 + u) c)
    (fun u => rowsX I H Wx s ((r / 64 + 1) % 784 * 64 + u) c)

theorem rowScores_isReal (hI : ∀ i, IsReal (I i)) (hW : ∀ i, IsReal (Wx i)) (s : Fin 4) (r : ℕ) (t : Fin 192) : IsReal (rowScores I H Wx s r t) := by
  refine score_isReal _ _ (fun c => featX_isReal I Wx hI hW _ _) fun c => ?_
  unfold pick3
  split_ifs <;> exact featX_isReal I Wx hI hW _ _

/-- Attention with the weights written through the logarithm of their sum. -/
theorem attnRow_log (hI : ∀ i, IsReal (I i)) (hW : ∀ i, IsReal (Wx i)) (s : Fin 4) (r : ℕ) (d : Fin 384) :
    attnRow (rowsX I H Wx) (rowsY I H Wy) s r d = ∑ t : Fin 192, weightR (rowScores I H Wx s r) t *
      pick3 t (fun u => rowsY I H Wy s (r / 64 * 64 + u) d) (fun u => rowsY I H Wy s ((r / 64 + 783) % 784 * 64 + u) d) (fun u => rowsY I H Wy s ((r / 64 + 1) % 784 * 64 + u) d) := by
  unfold attnRow attn
  refine Finset.sum_congr rfl fun t _ => congrArg (· * _) ?_
  exact (weightR_eq (by omega) _ (rowScores_isReal I H Wx hI hW s r) t).symm

end Cert.Math

end
-- ==== Proof.RFinal.lean ====
module

public import proofs.«01_k».proof.Proof.RShift
public import proofs.«01_k».proof.Proof.RMix
public import proofs.«01_k».proof.Proof.Real

@[expose] public section

set_option maxRecDepth 16384

noncomputable section

namespace Cert.ReferenceIdeal.Hand

open Idealize.ShloMosaic Idealize.ShloMosaic.Pointwise Cert.ReferenceIdeal.Gen Cert.ReferenceIdeal.Value Cert.Math
open Cert.KernelIdeal.Hand (pick3 attnRow)

variable (V0 : Valuation τ sig (Elt Ideal))

/-- The weights of the output projection. -/
abbrev weightO : WeightO := V0 (Proc.devRef .tc main_arg4)
/-- The bias of the output projection. -/
abbrev bias : Bias := V0 (Proc.devRef .tc main_arg5)

/-- Rows of the chunked attention taken back into pixel order. -/
theorem taken_apply (a : FVec Ideal S1x4x784x64x384 .f32) (idx : IVec S200704x384x1 32) (pl : Fin 200704 → Fin 200704)
    (hi : ∀ n y, idx (ix3 n y 0) = BitVec.ofNat 32 (pl n).val) (n : Fin 200704) (y : Fin 384) :
    select (broadcastInDim S1x200704x384 ![1, 2] bcast_S200704x384_S1x200704x384_1_2 (Host.reduce IntOp.andi (andi (cmpi .sge idx (broadcastInDim S200704x384x1 ![] bcast_S_S200704x384x1 (constantI S_ 32 0#32))) (cmpi .sle idx (broadcastInDim S200704x384x1 ![0, 1, 2] bcast_S1x1x1_S200704x384x1_0_1_2 (broadcastInDim S1x1x1 ![2] bcast_S1_S1x1x1_2 (constantI S1 32 200703#32))))) (constantI S_ 1 1#1) reducesTo_S200704x384x1_S200704x384_d2 h_S_)) (Host.gather gather_S1x200704x384_S200704x384x1_S1x200704x384_0_1_2_1_1_2_111 (shapeCast S1x200704x384 (shapeCast S1x4x50176x384 a shapeCasts_S1x4x784x64x384_S1x4x50176x384) shapeCasts_S1x4x50176x384_S1x200704x384) idx) (broadcastInDim S1x200704x384 ![] bcast_S_S1x200704x384 (constant S_ .f32 0x7FC00000#32 : FVec Ideal S_ .f32)) (ix3 0 n y)
      = a (ix5 0 ⟨(pl n).val / 50176, by omega⟩ ⟨(pl n).val / 64 % 784, by omega⟩ ⟨(pl n).val % 64, by omega⟩ y) := by
  rw [take_fill (N := 200704)]
  case hN => omega
  case hlo => exact fun _ => rfl
  case hhi => exact fun _ => rfl
  case hone => exact fun _ => rfl
  case hv =>
    intro (j : (⟨3, ![200704, 384, 1]⟩ : Shape).Idx)
    refine lt_of_eq_of_lt (congrArg BitVec.toNat ((congrArg _ (eq_ix3_unit j)).trans (hi (j 0) (j 1)))) ?_
    rw [BitVec.toNat_ofNat]
    have := (pl (j 0)).isLt
    omega
  refine (gather_col (R := 200704) (C := 384) (n := 200704) _ _ idx _ _ (pl n) (by omega) (hi n y)).trans ?_
  pointwise

/-- The projection of the rounds side by side, the bias and the image. -/
theorem project_apply (x : FVec Ideal S1x200704x384 .f32) (wo : FVec Ideal S384x1536x1x1 .f32) (b : FVec Ideal S384 .f32) (im : FVec Ideal S1x384x224x224 .f32) (o : Fin 384) (h w : Fin 224) :
    addf (addf (transpose S1x384x224x224 [0, 3, 1, 2] (Host.dotGeneral dot_S1x1536x224x224_S384x1536_S1x224x224x384_1_1_023_0_n_n none (shapeCast S1x1536x224x224 (transpose S1x4x384x50176 [0, 1, 3, 2] (shapeCast S1x4x50176x384 x shapeCasts_S1x200704x384_S1x4x50176x384) transposes_S1x4x50176x384_S1x4x384x50176_0_1_3_2) shapeCasts_S1x4x384x50176_S1x1536x224x224 : FVec Ideal S1x1536x224x224 .f32) (shapeCast S384x1536 wo shapeCasts_S384x1536x1x1_S384x1536 : FVec Ideal S384x1536 .f32)) transposes_S1x224x224x384_S1x384x224x224_0_3_1_2) (broadcastInDim S1x384x224x224 ![0, 1, 2, 3] bcast_S1x384x1x1_S1x384x224x224_0_1_2_3 (shapeCast S1x384x1x1 b shapeCasts_S384_S1x384x1x1))) im (ix4 0 o h w)
      = (∑ k : Fin 1536, x (ix3 0 ⟨k.val / 384 * 50176 + (h.val * 224 + w.val), by omega⟩ ⟨k.val % 384, by omega⟩) * wo (ix4 o k 0 0)) + b (ix1 o) + im (ix4 0 o h w) := by
  pointwise

/-- The attention of every chunk. -/
def attTerm : FVec Ideal S1x4x784x64x384 .f32 :=
  Host.dotGeneral dot_S1x4x784x64x192_S1x4x784x192x384_S1x4x784x64x384_4_3_3_4_012_012 none (Host.exp (subf (res_main_v101 V0) (broadcastInDim S1x4x784x64x192 ![0, 1, 2, 3, 4] bcast_S1x4x784x64x1_S1x4x784x64x192_0_1_2_3_4 (addf (Host.log (broadcastInDim S1x4x784x64x1 ![0, 1, 2, 3] bcast_S1x4x784x64_S1x4x784x64x1_0_1_2_3 (Host.reduceAdd (Host.exp (subf (res_main_v101 V0) (broadcastInDim S1x4x784x64x192 ![0, 1, 2, 3, 4] bcast_S1x4x784x64x1_S1x4x784x64x192_0_1_2_3_4 (res_main_v107 V0)))) (constant S_ .f32 0x00000000#32) reducesTo_S1x4x784x64x192_S1x4x784x64_d4 h_S_))) (res_main_v107 V0)))) : FVec Ideal S1x4x784x64x192 .f32) (concatenate S1x4x784x192x384 3 [⟨S1x4x784x64x384, (res_main_v81 V0)⟩, ⟨S1x4x784x64x384, (concatenate S1x4x784x64x384 2 [⟨S1x4x1x64x384, (extractStridedSlice S1x4x1x64x384 ![0, 0, 783, 0, 0] (res_main_v81 V0) slices_S1x4x784x64x384_S1x4x1x64x384_0_0_783_0_0)⟩, ⟨S1x4x783x64x384, (extractStridedSlice S1x4x783x64x384 ![0, 0, 0, 0, 0] (res_main_v81 V0) slices_S1x4x784x64x384_S1x4x783x64x384_0_0_0_0_0)⟩] concatenates_S1x4x1x64x384_S1x4x783x64x384_S1x4x784x64x384_d2)⟩, ⟨S1x4x784x64x384, (concatenate S1x4x784x64x384 2 [⟨S1x4x783x64x384, (extractStridedSlice S1x4x783x64x384 ![0, 0, 1, 0, 0] (res_main_v81 V0) slices_S1x4x784x64x384_S1x4x783x64x384_0_0_1_0_0)⟩, ⟨S1x4x1x64x384, (extractStridedSlice S1x4x1x64x384 ![0, 0, 0, 0, 0] (res_main_v81 V0) slices_S1x4x784x64x384_S1x4x1x64x384_0_0_0_0_0)⟩] concatenates_S1x4x783x64x384_S1x4x1x64x384_S1x4x784x64x384_d2)⟩] concatenates_S1x4x784x64x384_S1x4x784x64x384_S1x4x784x64x384_S1x4x784x192x384_d3 : FVec Ideal S1x4x784x192x384 .f32)

theorem scoresOf_eq (s : Fin 4) (q : Fin 784) (u : Fin 64) :
    scoresOf V0 s q u = rowScores (img V0) (codes V0) (weightX V0) s (rowNo q u) := by
  have e : rowNo q u / 64 = q.val := by have := u.isLt; unfold rowNo; omega
  funext t
  unfold scoresOf rowScores keysOf
  rw [e]
  simp only [sortedX_apply]
  rfl

theorem att_apply (hI : ∀ i, IsReal (img V0 i)) (hW : ∀ i, IsReal (weightX V0 i)) (s : Fin 4) (q : Fin 784) (u : Fin 64) (d : Fin 384) :
    attTerm V0 (ix5 0 s q u d) = attnRow (rowsX (img V0) (codes V0) (weightX V0)) (rowsY (img V0) (codes V0) (weightY V0)) s (rowNo q u) d := by
  have e : rowNo q u / 64 = q.val := by have := u.isLt; unfold rowNo; omega
  rw [attnRow_log _ _ _ _ hI hW]
  refine (mix_dot _ _ s q u d).trans (Finset.sum_congr rfl fun t _ => congrArg₂ (· * ·) ?_ ?_)
  · refine (weights_apply (res_main_v101 V0) (res_main_v107 V0) (scoresOf V0) (scores_apply V0) (shift_apply V0) s q u t).trans ?_
    rw [scoresOf_eq]
  · refine (ring384 (res_main_v81 V0) s q t d).trans ?_
    simp only [sortedY_apply]
    rw [e]
    rfl

theorem rowNo_split (n : Fin 200704) :
    rowNo (⟨n.val / 64 % 784, by omega⟩ : Fin 784) (⟨n.val % 64, by omega⟩ : Fin 64) = n.val % 50176 := by
  unfold rowNo
  simp only []
  omega

/-- The reference's result, element by element. -/
theorem result_apply (hI : ∀ i, IsReal (img V0 i)) (hW : ∀ i, IsReal (weightX V0 i)) (o : Fin 384) (h w : Fin 224) :
    val3 V0 (Proc.devRef .tc main_v133) (ix4 0 o h w) = outAt (img V0) (codes V0) (weightX V0) (weightY V0) (weightO V0) (bias V0) o h w := by
  refine (congrFun (val3_main_v133 V0) (ix4 0 o h w)).trans ?_
  refine (project_apply _ (weightO V0) (bias V0) (img V0) o h w).trans ?_
  unfold outAt
  refine congrArg (fun z : EReal => z + bias V0 (ix1 o) + img V0 (ix4 0 o h w)) (Finset.sum_congr rfl fun k _ => congrArg (fun z : EReal => z * weightO V0 (ix4 o k 0 0)) ?_)
  refine (taken_apply (attTerm V0) (res_main_call8_v5 V0) (place (codes V0)) (indexBack V0) _ _).trans ?_
  rw [att_apply V0 hI hW]
  unfold mixed
  rw [rowNo_split]

end Cert.ReferenceIdeal.Hand

end
-- ==== Proof.Same.lean ====
module

public import proofs.«01_k».proof.Proof.KOut
public import proofs.«01_k».proof.Proof.RFinal

@[expose] public section

set_option maxRecDepth 16384

noncomputable section

namespace Cert.Proof

open Idealize.ShloMosaic Idealize.ShloMosaic.StableHlo Idealize.ShloMosaic.TcCoe Idealize.SL.Sem
open Cert.Math

theorem eq_ix4_unit (i : (⟨4, ![1, 384, 224, 224]⟩ : Shape).Idx) : i = ix4 0 (i 1) (i 2) (i 3) := by
  refine (eq_ix4 i).trans ?_
  refine congrArg (fun z => ix4 z (i 1) (i 2) (i 3)) (Fin.ext ?_)
  have : (i 0).val < 1 := (i 0).isLt
  show (i 0).val = 0
  omega

/-- The two result arrays, element by element. -/
theorem results_equal (m : (ℓ : Loc Cert.KernelIdeal.nD Cert.KernelIdeal.τ Cert.KernelIdeal.sig) → Buf (Elt Ideal) ℓ) (g : Dev Cert.KernelIdeal.nD → PrngReg)
    (c : Dev Cert.KernelIdeal.nD) (V0 : Valuation Cert.ReferenceIdeal.τ Cert.ReferenceIdeal.sig (Elt Ideal))
    (h0 : Cert.ReferenceIdeal.Hand.img V0 = Cert.KernelIdeal.Hand.argI m c) (h1 : Cert.ReferenceIdeal.Hand.codes V0 = Cert.KernelIdeal.Hand.argH m c)
    (h2 : Cert.ReferenceIdeal.Hand.weightX V0 = Cert.KernelIdeal.Hand.argX m c) (h3 : Cert.ReferenceIdeal.Hand.weightY V0 = Cert.KernelIdeal.Hand.argY m c)
    (h4 : Cert.ReferenceIdeal.Hand.weightO V0 = Cert.KernelIdeal.Hand.argO m c) (h5 : Cert.ReferenceIdeal.Hand.bias V0 = Cert.KernelIdeal.Hand.argB m c)
    (hI : ∀ i, IsReal (Cert.KernelIdeal.Hand.argI m c i)) (hW : ∀ i, IsReal (Cert.KernelIdeal.Hand.argX m c i)) :
    (Cert.ReferenceIdeal.Value.val3 V0 (Proc.devRef .tc Cert.ReferenceIdeal.main_v133) : Image)
      = Cert.KernelIdeal.Gen.W26 m g c (Proc.devRef .tc Cert.KernelIdeal.main_v47) := by
  funext i
  rw [eq_ix4_unit i]
  refine (Cert.ReferenceIdeal.Hand.result_apply V0 (by rw [h0]; exact hI) (by rw [h2]; exact hW) (i 1) (i 2) (i 3)).trans ?_
  rw [h0, h1, h2, h3, h4, h5]
  exact (Cert.KernelIdeal.Hand.result_apply m g c (i 1) (i 2) (i 3)).symm

end Cert.Proof

end
-- ==== Proof.Finite.lean ====
module

public import proofs.«01_k».proof.Pre_finite
public import proofs.«01_k».proof.Proof.Softmax

@[expose] public section

noncomputable section

namespace Cert.Pre_finite.Hand

open Idealize.ShloMosaic Cert.Pre_finite Cert.Math

theorem facts : Cert.Pre_finite.Facts where
  bcast_S_S1x384x224x224 := by decide
  bcast_S_S96x384x3x3 := by decide

/-- A magnitude below infinity is that of a real number. -/
theorem real_of_lt {x : EReal} (h : Ideal.cmp .olt (max x (-x)) ⊤ = 1#1) : IsReal x := by
  have hx : max x (-x) < ⊤ := by
    by_contra hn
    simp [Ideal.cmp, hn] at h
  induction x with
  | bot => simp at hx
  | top => simp at hx
  | coe r => exact ⟨r, rfl⟩

/-- An array that passes the test has real numbers alone. -/
theorem reals_of_test {s : Shape} (x : FVec Ideal s .f32) (hb : (⟨0, ![]⟩ : Shape).BroadcastsInDim s (![] : Fin 0 → Fin s.rank))
    (h : cmpf .olt (Host.absf x) (broadcastInDim s ![] hb (constant (⟨0, ![]⟩ : Shape) .f32 0x7F800000#32)) = fun _ => 1#1) (i : s.Idx) : IsReal (x i) := by
  have e : Ideal.ofBits .f32 0x7F800000#32 = ⊤ := by simp [Ideal.ofBits, Ideal.ieee]
  have hi := congrFun h i
  change Ideal.cmp .olt (max (x i) (-(x i))) (Ideal.ofBits .f32 0x7F800000#32) = 1#1 at hi
  rw [e] at hi
  exact real_of_lt hi

end Cert.Pre_finite.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KRun
public import proofs.«01_k».proof.Proof.Same
public import proofs.«01_k».proof.Proof.Finite
public import Idealize.ShloMosaic.Adequacy
public import Idealize.ShloMosaic.Init

@[expose] public section

set_option maxRecDepth 16384

noncomputable section

namespace Cert.Proof

open Idealize.ShloMosaic Idealize.ShloMosaic.StableHlo Idealize.ShloMosaic.TcCoe Idealize.SL.Sem
open Cert.Math

/-- The reference runs, leaves its arguments alone, and it has no semaphore to leave anywhere but at zero. -/
theorem reference_frame : Cert.quiescent_ReferenceIdeal := by
  intro m ρ _
  exact (θ_run Cert.ReferenceIdeal.defs _ _).mono (fun r h => ⟨fun c => (h c).2, sem_eq_zero_of_no_sems (by decide) r.2⟩)
    (Cert.ReferenceIdeal.Value.run (F := Ideal) m ρ)

/-- On finite images and matching weights the kernel and the reference give the same array. -/
theorem same_results : Cert.algebraic_KernelIdeal_ReferenceIdeal_pre_finite (hPre_finite := Cert.Pre_finite.Hand.facts) := by
  intro m g m' g' hpre hargs
  refine ⟨fun c => Cert.KernelIdeal.Gen.W26 m g c (Proc.devRef .tc Cert.KernelIdeal.main_v47), Cert.KernelIdeal.Hand.run_result m g, ?_⟩
  refine (θ_run Cert.ReferenceIdeal.defs _ _).mono (fun r h c => ⟨?_, (h c).2⟩) (Cert.ReferenceIdeal.Value.run (F := Ideal) m' g')
  obtain ⟨a0, a1, a2, a3, a4, a5⟩ := hargs c
  refine (h c).1.trans ((Cert.ReferenceIdeal.Value.val3_main_v133 _).symm.trans ?_)
  exact results_equal m g c _ a0 a1 a2 a3 a4 a5 (Cert.Pre_finite.Hand.reals_of_test _ _ (hpre c).1) (Cert.Pre_finite.Hand.reals_of_test _ _ (hpre c).2)

theorem claim : Cert.Claim := ⟨Cert.Kernel.Gen.facts, Cert.KernelIdeal.Gen.facts, Cert.ReferenceIdeal.Gen.facts, Cert.Pre_finite.Hand.facts,
  fun m ρ _ => Cert.Kernel.Gen.frame m ρ, fun m ρ _ => Cert.KernelIdeal.Gen.frame m ρ, fun m ρ _ => Cert.KernelIdeal.Gen.frame m ρ,
  reference_frame, fun m ρ _ => reference_frame m ρ trivial, trivial, same_results⟩

end Cert.Proof

end
